-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "pos" .f32 0x7149F2CA#32 ⊤

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  bcast_S_S2048x2048 : S_.BroadcastsInDim S2048x2048 (![] : Fin 0 → Fin S2048x2048.rank)

variable [Facts]

def fn {F : FTy → Type} [FloatOps F] (main_arg0 : FVec F S1x2048x2048 .f32) (main_arg1 : FVec F S2048x2048 .f32) (main_arg2 : FVec F S2048x2048 .f32) (main_arg3 : FVec F S2048x2048 .f32) (main_arg4 : FVec F S2048x2048 .f32) : IVec S1x2048x2048 1 × IVec S2048x2048 1 × IVec S2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Kernel.lean ====
abbrev S1x2048x2048 : Shape := ⟨3, ![1, 2048, 2048]⟩
abbrev S2048x2048 : Shape := ⟨2, ![2048, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x512 : Shape := ⟨2, ![2048, 512]⟩
abbrev S8x1x2048 : Shape := ⟨3, ![8, 1, 2048]⟩
abbrev S1024x2048 : Shape := ⟨2, ![1024, 2048]⟩
abbrev S256x2048 : Shape := ⟨2, ![256, 2048]⟩
abbrev S1024x512 : Shape := ⟨2, ![1024, 512]⟩
abbrev S1024x256 : Shape := ⟨2, ![1024, 256]⟩
abbrev S4x1x256 : Shape := ⟨3, ![4, 1, 256]⟩
abbrev S1024x2x128 : Shape := ⟨3, ![1024, 2, 128]⟩
abbrev S4x256x256 : Shape := ⟨3, ![4, 256, 256]⟩
abbrev S4x256 : Shape := ⟨2, ![4, 256]⟩
abbrev S8x2048 : Shape := ⟨2, ![8, 2048]⟩
abbrev S256x8 : Shape := ⟨2, ![256, 8]⟩
abbrev S256x8x8 : Shape := ⟨3, ![256, 8, 8]⟩
abbrev S256x128 : Shape := ⟨2, ![256, 128]⟩
abbrev S8x128 : Shape := ⟨2, ![8, 128]⟩
abbrev S256x1x8 : Shape := ⟨3, ![256, 1, 8]⟩
abbrev S256x8x1 : Shape := ⟨3, ![256, 8, 1]⟩
abbrev S128x2048 : Shape := ⟨2, ![128, 2048]⟩
abbrev S256x8x256 : Shape := ⟨3, ![256, 8, 256]⟩
abbrev S256 : Shape := ⟨1, ![256]⟩
abbrev S256x1 : Shape := ⟨2, ![256, 1]⟩

abbrev nBuf : Space → Nat
  | .hbm => 41
  | .vmem => 26
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S2048x64, .f32⟩
  | .hbm, ⟨32, _⟩ => ⟨S2048x128, .f32⟩
  | .hbm, ⟨33, _⟩ => ⟨S2048x512, .f32⟩
  | .hbm, ⟨34, _⟩ => ⟨S2048x2048, .bf16⟩
  | .hbm, ⟨35, _⟩ => ⟨S2048x2048, .bf16⟩
  | .hbm, ⟨36, _⟩ => ⟨S2048x2048, .bf16⟩
  | .hbm, ⟨37, _⟩ => ⟨S8x1x2048, .f32⟩
  | .hbm, ⟨38, _⟩ => ⟨S8x2048, .f32⟩
  | .hbm, ⟨39, _⟩ => ⟨S2048x2048, .f32⟩
  | .hbm, ⟨40, _⟩ => ⟨S1x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x512, .f32⟩
  | .local _ .vmem, ⟨9, _⟩ => ⟨S1024x512, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S4x1x256, .f32⟩
  | .local _ .vmem, ⟨17, _⟩ => ⟨S4x1x256, .f32⟩
  | .local _ .vmem, ⟨18, _⟩ => ⟨S256x2048, .bf16⟩
  | .local _ .vmem, ⟨19, _⟩ => ⟨S256x2048, .bf16⟩
  | .local _ .vmem, ⟨20, _⟩ => ⟨S2048x2048, .bf16⟩
  | .local _ .vmem, ⟨21, _⟩ => ⟨S2048x2048, .bf16⟩
  | .local _ .vmem, ⟨22, _⟩ => ⟨S8x2048, .f32⟩
  | .local _ .vmem, ⟨23, _⟩ => ⟨S2048x2048, .bf16⟩
  | .local _ .vmem, ⟨24, _⟩ => ⟨S256x2048, .f32⟩
  | .local _ .vmem, ⟨25, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "neg" => some ⊥
  | "pos" => some ⊤
  | _ => none
-- ==== ReferenceIdeal.lean ====
abbrev S1x2048x2048 : Shape := ⟨3, ![1, 2048, 2048]⟩
abbrev S2048x2048 : Shape := ⟨2, ![2048, 2048]⟩
abbrev S2048x16x128 : Shape := ⟨3, ![2048, 16, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S2048x16x64 : Shape := ⟨3, ![2048, 16, 64]⟩
abbrev S8x256x16x128 : Shape := ⟨4, ![8, 256, 16, 128]⟩
abbrev S8x16x128 : Shape := ⟨3, ![8, 16, 128]⟩
abbrev S16x2048x8 : Shape := ⟨3, ![16, 2048, 8]⟩
abbrev S8 : Shape := ⟨1, ![8]⟩
abbrev S1x8 : Shape := ⟨2, ![1, 8]⟩
abbrev S2048x8 : Shape := ⟨2, ![2048, 8]⟩
abbrev S1x2048x8 : Shape := ⟨3, ![1, 2048, 8]⟩
abbrev S16x2048x4 : Shape := ⟨3, ![16, 2048, 4]⟩
abbrev S16x2048x4x1 : Shape := ⟨4, ![16, 2048, 4, 1]⟩
abbrev S1x1x1x8 : Shape := ⟨4, ![1, 1, 1, 8]⟩
abbrev S16x2048x4x8 : Shape := ⟨4, ![16, 2048, 4, 8]⟩
abbrev S16x2048x8x256 : Shape := ⟨4, ![16, 2048, 8, 256]⟩
abbrev S16x2048x2048 : Shape := ⟨3, ![16, 2048, 2048]⟩
abbrev S1x2048 : Shape := ⟨2, ![1, 2048]⟩
abbrev S16x2048 : Shape := ⟨2, ![16, 2048]⟩
abbrev S16x2048x1 : Shape := ⟨3, ![16, 2048, 1]⟩
abbrev S16x128x2048 : Shape := ⟨3, ![16, 128, 2048]⟩

abbrev nBuf : Space → Nat
  | .hbm => 174
  | .vmem => 0
  | .smem => 0
  | _ => 0

abbrev hbmTy0_0 (i : Nat) : BufTy := match i % 128 with
  | 0 => ⟨S1x2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x16x128, .f32⟩
  | 9 => ⟨S2048x2048, .f32⟩
  | 10 => ⟨S2048x2048, .f32⟩
  | 11 => ⟨S2048x16x128, .f32⟩
  | 12 => ⟨S2048x2048, .f32⟩
  | 13 => ⟨S2048x2048, .f32⟩
  | 14 => ⟨S2048x16x128, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S2048, .f32⟩
  | 26 => ⟨S2048x1, .f32⟩
  | 27 => ⟨S1x64, .f32⟩
  | 28 => ⟨S2048x64, .f32⟩
  | 29 => ⟨S2048x64, .f32⟩
  | 30 => ⟨S2048x64, .f32⟩
  | 31 => ⟨S2048x64, .f32⟩
  | 32 => ⟨S2048x1x64, .f32⟩
  | 33 => ⟨S2048x64, .f32⟩
  | 34 => ⟨S2048x1x64, .f32⟩
  | 35 => ⟨S2048x16x64, .f32⟩
  | 36 => ⟨S2048x16x64, .f32⟩
  | 37 => ⟨S2048x16x64, .f32⟩
  | 38 => ⟨S2048x16x64, .f32⟩
  | 39 => ⟨S2048x16x64, .f32⟩
  | 40 => ⟨S2048x16x64, .f32⟩
  | 41 => ⟨S2048x16x64, .f32⟩
  | 42 => ⟨S2048x16x64, .f32⟩
  | 43 => ⟨S2048x16x64, .f32⟩
  | 44 => ⟨S2048x16x64, .f32⟩
  | 45 => ⟨S2048x16x64, .f32⟩
  | 46 => ⟨S2048x16x64, .f32⟩
  | 47 => ⟨S2048x16x128, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S2048, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S2048x1x64, .f32⟩
  | 66 => ⟨S2048x64, .f32⟩
  | 67 => ⟨S2048x1x64, .f32⟩
  | 68 => ⟨S2048x16x64, .f32⟩
  | 69 => ⟨S2048x16x64, .f32⟩
  | 70 => ⟨S2048x16x64, .f32⟩
  | 71 => ⟨S2048x16x64, .f32⟩
  | 72 => ⟨S2048x16x64, .f32⟩
  | 73 => ⟨S2048x16x64, .f32⟩
  | 74 => ⟨S2048x16x64, .f32⟩
  | 75 => ⟨S2048x16x64, .f32⟩
  | 76 => ⟨S2048x16x64, .f32⟩
  | 77 => ⟨S2048x16x64, .f32⟩
  | 78 => ⟨S2048x16x64, .f32⟩
  | 79 => ⟨S2048x16x64, .f32⟩
  | 80 => ⟨S2048x16x128, .f32⟩
  | 81 => ⟨S8x256x16x128, .f32⟩
  | 82 => ⟨S_, .f32⟩
  | 83 => ⟨S8x16x128, .f32⟩
  | 84 => ⟨S_, .f32⟩
  | 85 => ⟨S8x16x128, .f32⟩
  | 86 => ⟨S8x16x128, .f32⟩
  | 87 => ⟨S16x2048x8, .f32⟩
  | 88 => ⟨S2048, .i32⟩
  | 89 => ⟨S8, .i32⟩
  | 90 => ⟨S2048x1, .i32⟩
  | 91 => ⟨S1x8, .i32⟩
  | 92 => ⟨S_, .i32⟩
  | 93 => ⟨S1x8, .i32⟩
  | 94 => ⟨S1x8, .i32⟩
  | 95 => ⟨S_, .i32⟩
  | 96 => ⟨S1x8, .i32⟩
  | 97 => ⟨S1x8, .i32⟩
  | 98 => ⟨S2048x8, .i32⟩
  | 99 => ⟨S2048x8, .i32⟩
  | 100 => ⟨S2048x8, .i1⟩
  | 101 => ⟨S2048x1, .i32⟩
  | 102 => ⟨S1x8, .i32⟩
  | 103 => ⟨S_, .i32⟩
  | 104 => ⟨S1x8, .i32⟩
  | 105 => ⟨S1x8, .i32⟩
  | 106 => ⟨S2048x8, .i32⟩
  | 107 => ⟨S2048x8, .i32⟩
  | 108 => ⟨S2048x8, .i1⟩
  | 109 => ⟨S2048x8, .i1⟩
  | 110 => ⟨S1x2048x8, .i1⟩
  | 111 => ⟨S_, .f32⟩
  | 112 => ⟨S_, .f32⟩
  | 113 => ⟨S16x2048x8, .i1⟩
  | 114 => ⟨S16x2048x8, .f32⟩
  | 115 => ⟨S16x2048x8, .f32⟩
  | 116 => ⟨S1x2048x8, .i1⟩
  | 117 => ⟨S_, .f32⟩
  | 118 => ⟨S_, .f32⟩
  | 119 => ⟨S16x2048x8, .i1⟩
  | 120 => ⟨S16x2048x8, .f32⟩
  | 121 => ⟨S16x2048x8, .f32⟩
  | 122 => ⟨S16x2048x4, .f32⟩
  | 123 => ⟨S16x2048x4, .i32⟩
  | 124 => ⟨S16x2048x4x1, .i32⟩
  | 125 => ⟨S1x1x1x8, .i32⟩
  | 126 => ⟨S16x2048x4x8, .i32⟩
  | 127 => ⟨S16x2048x4x8, .i32⟩
  | _ => ⟨S1x2048x2048, .f32⟩

abbrev hbmTy0_1 (i : Nat) : BufTy := match i % 128 with
  | 0 => ⟨S16x2048x4x8, .i1⟩
  | 1 => ⟨S16x2048x4x8, .f32⟩
  | 2 => ⟨S_, .f32⟩
  | 3 => ⟨S16x2048x8, .f32⟩
  | 4 => ⟨S_, .f32⟩
  | 5 => ⟨S16x2048x8, .f32⟩
  | 6 => ⟨S16x2048x8, .i1⟩
  | 7 => ⟨S16x2048x8x256, .i1⟩
  | 8 => ⟨S16x2048x2048, .i1⟩
  | 9 => ⟨S2048x1, .i32⟩
  | 10 => ⟨S1x2048, .i32⟩
  | 11 => ⟨S2048x2048, .i32⟩
  | 12 => ⟨S2048x2048, .i32⟩
  | 13 => ⟨S2048x2048, .i1⟩
  | 14 => ⟨S1x2048x2048, .i1⟩
  | 15 => ⟨S16x2048x2048, .i1⟩
  | 16 => ⟨S16x2048x2048, .i1⟩
  | 17 => ⟨S16x2048x2048, .f32⟩
  | 18 => ⟨S_, .f32⟩
  | 19 => ⟨S_, .f32⟩
  | 20 => ⟨S16x2048x2048, .f32⟩
  | 21 => ⟨S16x2048x2048, .f32⟩
  | 22 => ⟨S_, .f32⟩
  | 23 => ⟨S_, .f32⟩
  | 24 => ⟨S16x2048x2048, .f32⟩
  | 25 => ⟨S16x2048x2048, .f32⟩
  | 26 => ⟨S_, .f32⟩
  | 27 => ⟨S16x2048, .f32⟩
  | 28 => ⟨S_, .f32⟩
  | 29 => ⟨S16x2048, .f32⟩
  | 30 => ⟨S16x2048, .f32⟩
  | 31 => ⟨S16x2048x1, .f32⟩
  | 32 => ⟨S16x2048x2048, .f32⟩
  | 33 => ⟨S16x2048x2048, .f32⟩
  | 34 => ⟨S16x2048x2048, .f32⟩
  | 35 => ⟨S_, .f32⟩
  | 36 => ⟨S16x2048, .f32⟩
  | 37 => ⟨S16x2048x1, .f32⟩
  | 38 => ⟨S16x2048x2048, .f32⟩
  | 39 => ⟨S16x2048x2048, .f32⟩
  | 40 => ⟨S16x128x2048, .f32⟩
  | 41 => ⟨S2048x16x128, .f32⟩
  | 42 => ⟨S2048x2048, .f32⟩
  | 43 => ⟨S2048x2048, .f32⟩
  | 44 => ⟨S2048x2048, .f32⟩
  | 45 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_5 : Ref sig .tc := ⟨.hbm, 82, rfl⟩
abbrev main_v71 : Ref sig .tc := ⟨.hbm, 83, rfl⟩
abbrev main_cst_6 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_c : Ref sig .tc := ⟨.hbm, 92, rfl⟩
abbrev main_v79 : Ref sig .tc := ⟨.hbm, 93, rfl⟩
abbrev main_v80 : Ref sig .tc := ⟨.hbm, 94, rfl⟩
abbrev main_c_7 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_c_8 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v95 : Ref sig .tc := ⟨.hbm, 115, rfl⟩
abbrev main_v96 : Ref sig .tc := ⟨.hbm, 116, rfl⟩
abbrev main_cst_10 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v97 : Ref sig .tc := ⟨.hbm, 121, rfl⟩
abbrev main_values : Ref sig .tc := ⟨.hbm, 122, rfl⟩
abbrev main_indices : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v98 : Ref sig .tc := ⟨.hbm, 129, rfl⟩
abbrev main_cst_11 : Ref sig .tc := ⟨.hbm, 130, rfl⟩
abbrev main_v99 : Ref sig .tc := ⟨.hbm, 131, rfl⟩
abbrev main_cst_12 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_13 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_14 : Ref sig .tc := ⟨.hbm, 150, rfl⟩
abbrev main_call3_v0 : Ref sig .tc := ⟨.hbm, 151, rfl⟩
abbrev main_call3_v1 : Ref sig .tc := ⟨.hbm, 152, rfl⟩
abbrev main_v116 : Ref sig .tc := ⟨.hbm, 153, rfl⟩
abbrev main_cst_15 : Ref sig .tc := ⟨.hbm, 154, rfl⟩
abbrev main_v117 : Ref sig .tc := ⟨.hbm, 155, rfl⟩
abbrev main_cst_16 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_17 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩

abbrev nD : Nat := 1
abbrev τ : Topo := Topo.v7x

variable {F : FTy → Type} [FloatOps F]
-- ==== Proof.KernelRun.lean ====
/- The run of the kernel with its result array read: the launch over the segments of the generated frame, its last state
   read at the result as well as at the arguments. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying through plain definitions
set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v29 (by decide)), (h c _ (mem_uc main_arg0 (by decide))).trans (W5_main_arg0 m ρ c),
      (h c _ (mem_uc main_arg1 (by decide))).trans (W5_main_arg1 m ρ c), (h c _ (mem_uc main_arg2 (by decide))).trans (W5_main_arg2 m ρ c),
      (h c _ (mem_uc main_arg3 (by decide))).trans (W5_main_arg3 m ρ c), (h c _ (mem_uc main_arg4 (by decide))).trans (W5_main_arg4 m ρ c)⟩)

end Cert.KernelRun

end
-- ==== Proof.TopK.lean ====
/- Which positions a stable descending sort puts first. -/
module

public import Idealize.ShloMosaic.PureOps
public import Idealize.ShloMosaic.Lib.SortFacts
public import Mathlib.Order.Interval.Finset.Fin
public import Mathlib.Data.EReal.Operations

@[expose] public section

noncomputable section

namespace Cert.TopK

open Idealize.ShloMosaic

variable {α : Type} [LinearOrder α]

/-- Position `b` comes before position `a`: a greater value, or the same value at a lower position. -/
def Beats {n : Nat} (g : Fin n → α) (b a : Fin n) : Prop := g a < g b ∨ (g b = g a ∧ b < a)

/-- Whether one position comes before another can be decided. -/
instance {n : Nat} (g : Fin n → α) (b a : Fin n) : Decidable (Beats g b a) := by unfold Beats; infer_instance

/-- How many positions come before position `a`. -/
def rank {n : Nat} (g : Fin n → α) (a : Fin n) : Nat := (Finset.univ.filter fun b => Beats g b a).card

/-- Coming before is transitive. -/
theorem Beats.trans {n : Nat} {g : Fin n → α} {a b c : Fin n} (h : Beats g a b) (h' : Beats g b c) : Beats g a c := by
  unfold Beats at *
  rcases h with h | ⟨h, h1⟩ <;> rcases h' with h' | ⟨h', h1'⟩
  · exact .inl (h'.trans h)
  · exact .inl (h' ▸ h)
  · exact .inl (h ▸ h')
  · exact .inr ⟨h.trans h', h1.trans h1'⟩

/-- No position comes before itself. -/
theorem Beats.irrefl {n : Nat} (g : Fin n → α) (a : Fin n) : ¬ Beats g a a := by
  unfold Beats; simp

/-- Of two positions one comes before the other. -/
theorem Beats.total {n : Nat} {g : Fin n → α} {a b : Fin n} (h : a ≠ b) : Beats g a b ∨ Beats g b a := by
  unfold Beats
  rcases lt_trichotomy (g a) (g b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- Inserting, by greater value first, a position that is lower than all those already there keeps the list ordered. -/
theorem pairwise_insert {n : Nat} (g : Fin n → α) (R : Fin n → Fin n → Bool) (hR : ∀ a b, R a b = true ↔ g b < g a)
    (a : Fin n) (l : List (Fin n)) (hl : l.Pairwise (Beats g)) (ha : ∀ b ∈ l, a < b) :
    (insertBefore R a l).Pairwise (Beats g) := by
  induction l with
  | nil => exact List.pairwise_singleton _ _
  | cons b l ih =>
    have hl' := List.pairwise_cons.mp hl
    unfold insertBefore
    split
    · next h =>
      refine List.pairwise_cons.mpr ⟨fun c hc => ?_, ih hl'.2 fun c hc => ha c (List.mem_cons_of_mem _ hc)⟩
      rcases List.mem_cons.mp ((perm_insertBefore R a l).mem_iff.mp hc) with rfl | hc
      · exact .inl ((hR _ _).mp h)
      · exact hl'.1 c hc
    · next h =>
      have hab : Beats g a b := by
        have h1 : ¬ g a < g b := fun h2 => h ((hR _ _).mpr h2)
        rcases lt_or_eq_of_le (not_lt.mp h1) with h2 | h2
        · exact .inl h2
        · exact .inr ⟨h2.symm, ha b List.mem_cons_self⟩
      refine List.pairwise_cons.mpr ⟨fun c hc => ?_, hl⟩
      rcases List.mem_cons.mp hc with rfl | hc
      · exact hab
      · exact hab.trans (hl'.1 c hc)

/-- The stable sort by greater value first of a list of increasing positions is ordered by `Beats`. -/
theorem pairwise_sort {n : Nat} (g : Fin n → α) (R : Fin n → Fin n → Bool) (hR : ∀ a b, R a b = true ↔ g b < g a)
    (l : List (Fin n)) (hl : l.Pairwise (· < ·)) : (stableSort R l).Pairwise (Beats g) := by
  induction l with
  | nil => exact List.Pairwise.nil
  | cons a l ih =>
    have hl' := List.pairwise_cons.mp hl
    unfold stableSort
    exact pairwise_insert g R hR a _ (ih hl'.2) fun b hb => hl'.1 b ((perm_stableSort R l).mem_iff.mp hb)

/-- The position sorted to place `j` comes before the one sorted to a later place. -/
theorem sorted_beats {n : Nat} (g : Fin n → α) (R : Fin n → Fin n → Bool) (hR : ∀ a b, R a b = true ↔ g b < g a)
    (i j : Fin n) (hij : i < j) : Beats g (sortedFrom R i) (sortedFrom R j) := by
  have hp := List.pairwise_iff_get.mp (pairwise_sort g R hR (List.finRange n) (List.pairwise_lt_finRange n))
  unfold sortedFrom
  exact hp _ _ (show i.val < j.val from hij)

/-- The place a position is sorted to is the number of positions that come before it. -/
theorem rank_sorted {n : Nat} (g : Fin n → α) (R : Fin n → Fin n → Bool) (hR : ∀ a b, R a b = true ↔ g b < g a)
    (j : Fin n) : rank g (sortedFrom R j) = j.val := by
  have hset : (Finset.univ.filter fun b => Beats g b (sortedFrom R j)) = (Finset.univ.filter fun i : Fin n => i < j).map
      ⟨sortedFrom R, sortedFrom_injective R⟩ := by
    ext b
    simp only [Finset.mem_filter, Finset.mem_univ, true_and, Finset.mem_map, Function.Embedding.coeFn_mk]
    constructor
    · intro h
      obtain ⟨i, rfl⟩ := sortedFrom_surjective R b
      refine ⟨i, ?_, rfl⟩
      by_contra hij
      rcases lt_or_eq_of_le (not_lt.mp hij) with h1 | h1
      · exact Beats.irrefl g _ (h.trans (sorted_beats g R hR j i h1))
      · subst h1; exact Beats.irrefl g _ h
    · rintro ⟨i, hi, rfl⟩
      exact sorted_beats g R hR i j hi
  unfold rank
  rw [hset, Finset.card_map]
  have h : (Finset.univ.filter fun i : Fin n => i < j) = Finset.Iio j := by ext i; simp
  rw [h, Fin.card_Iio]

/-- A position is among the first `k` of the sort exactly when fewer than `k` positions come before it. -/
theorem mem_first_iff {n k : Nat} (hk : k ≤ n) (g : Fin n → α) (R : Fin n → Fin n → Bool)
    (hR : ∀ a b, R a b = true ↔ g b < g a) (a : Fin n) :
    (∃ j : Fin k, sortedFrom R (Fin.castLE hk j) = a) ↔ rank g a < k := by
  constructor
  · rintro ⟨j, rfl⟩
    rw [rank_sorted g R hR]
    exact j.isLt
  · intro h
    obtain ⟨i, rfl⟩ := sortedFrom_surjective R a
    rw [rank_sorted g R hR] at h
    exact ⟨⟨i.val, h⟩, congrArg _ (Fin.ext rfl)⟩

end Cert.TopK

end
-- ==== Proof.Softmax.lean ====
/- One row of attention over the extended reals: the weights without a shift and the weights of a softmax. -/
module

public import Idealize.ShloMosaic.PureOps
public import Idealize.ShloMosaic.PureOps.Ideal
public import Mathlib.Data.EReal.Operations
public import Mathlib.Data.EReal.Inv
public import Mathlib.Data.Finset.Fold
public import Mathlib.Analysis.SpecialFunctions.Exp

@[expose] public section

noncomputable section

namespace Cert.Softmax

open Idealize.ShloMosaic

variable {ι : Type} [Fintype ι]

/-- A nonnegative real factor goes into a sum, whatever the terms are. -/
theorem sum_mul_real (c : ℝ) (hc : 0 ≤ c) (s : Finset ι) (f : ι → EReal) : (∑ t ∈ s, f t) * (c : EReal) = ∑ t ∈ s, f t * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals is the real sum. -/
theorem sum_real (s : Finset ι) (f : ι → ℝ) : (∑ t ∈ s, (f t : EReal)) = ((∑ t ∈ s, f t : ℝ) : EReal) := by
  classical
  induction s using Finset.induction_on with
  | empty => simp
  | insert a s ha ih => rw [Finset.sum_insert ha, Finset.sum_insert ha, ih, EReal.coe_add]

/-- What the attention of one row is: each value times its weight over the sum of the weights, the weight of an
    unmasked position being the exponential of its score. -/
def attend (M : ι → Prop) [DecidablePred M] (s : ι → ℝ) (v : ι → EReal) : EReal :=
  ∑ t, v t * (((if M t then Real.exp (s t) else 0) / (∑ u, if M u then Real.exp (s u) else 0) : ℝ) : EReal)

/-- A weight is not negative. -/
theorem weight_nonneg (M : ι → Prop) [DecidablePred M] (s : ι → ℝ) (t : ι) : 0 ≤ (if M t then Real.exp (s t) else 0) := by
  split
  · exact (Real.exp_pos _).le
  · exact le_rfl

/-- The weights have a positive sum when some position is seen. -/
theorem weight_sum_pos (M : ι → Prop) [DecidablePred M] (s : ι → ℝ) (h : ∃ t, M t) :
    0 < ∑ t, (if M t then Real.exp (s t) else 0) := by
  obtain ⟨t, ht⟩ := h
  refine Finset.sum_pos' (fun u _ => weight_nonneg M s u) ⟨t, Finset.mem_univ _, ?_⟩
  rw [if_pos ht]; exact Real.exp_pos _

/-- The row as the sum of the weighted values divided once by the sum of the weights. -/
theorem attend_unshifted (M : ι → Prop) [DecidablePred M] (s : ι → ℝ) (v p : ι → EReal) (h : ∃ t, M t)
    (hp : ∀ t, p t = ((if M t then Real.exp (s t) else 0 : ℝ) : EReal)) :
    Ideal.div (∑ t, p t * v t) (∑ t, p t) = attend M s v := by
  have hW := weight_sum_pos M s h
  have hl : (∑ t, p t) = ((∑ t, (if M t then Real.exp (s t) else 0) : ℝ) : EReal) := by
    rw [← sum_real]; exact Finset.sum_congr rfl fun t _ => hp t
  rw [hl]
  unfold Ideal.div attend
  rw [if_neg (by exact_mod_cast hW.ne'), ← EReal.coe_inv, sum_mul_real _ (inv_nonneg.mpr hW.le)]
  refine Finset.sum_congr rfl fun t _ => ?_
  rw [hp t, mul_comm _ (v t), mul_assoc, ← EReal.coe_mul, div_eq_mul_inv]

/-- The row as a softmax of the masked scores shifted by any real, each weight divided before the sum. -/
theorem attend_shifted (M : ι → Prop) [DecidablePred M] (s : ι → ℝ) (v x : ι → EReal) (m : ℝ) (h : ∃ t, M t)
    (hx : ∀ t, x t = if M t then (s t : EReal) else ⊥) :
    ∑ t, v t * Ideal.div (Ideal.exp (x t - (m : EReal))) (∑ u, Ideal.exp (x u - (m : EReal))) = attend M s v := by
  have he : ∀ t, Ideal.exp (x t - (m : EReal)) = (((if M t then Real.exp (s t) else 0) * Real.exp (-m) : ℝ) : EReal) := by
    intro t
    rw [hx t]
    split
    · rw [← EReal.coe_sub, sub_eq_add_neg, ← Real.exp_add]; rfl
    · rw [sub_eq_add_neg, EReal.bot_add, zero_mul]; rfl
  have hW := weight_sum_pos M s h
  have hL : (∑ u, Ideal.exp (x u - (m : EReal))) = (((∑ t, (if M t then Real.exp (s t) else 0)) * Real.exp (-m) : ℝ) : EReal) := by
    rw [Finset.sum_mul, ← sum_real]; exact Finset.sum_congr rfl fun t _ => he t
  rw [hL]
  unfold attend
  refine Finset.sum_congr rfl fun t _ => ?_
  have hm := Real.exp_pos (-m)
  unfold Ideal.div
  rw [if_neg (by exact_mod_cast (mul_pos hW hm).ne'), he t, ← EReal.coe_inv, ← EReal.coe_mul]
  congr 2
  field_simp

/-- The greatest of a row, from `⊥`, is a real when no entry is `⊤` and some entry is not `⊥`. -/
theorem fold_max_real (f : ι → EReal) (ht : ∀ a, f a ≠ ⊤) (hr : ∃ a, f a ≠ ⊥) :
    ∃ m : ℝ, Finset.univ.fold max ⊥ f = (m : EReal) := by
  have h1 : Finset.univ.fold max ⊥ f ≠ ⊤ :=
    ((Finset.fold_max_lt _).mpr ⟨bot_lt_top, fun a _ => lt_top_iff_ne_top.mpr (ht a)⟩).ne
  obtain ⟨a, ha⟩ := hr
  have h2 : Finset.univ.fold max ⊥ f ≠ ⊥ := fun h =>
    ha (le_bot_iff.mp (h ▸ (Finset.le_fold_max _).mpr (Or.inr ⟨a, Finset.mem_univ a, le_rfl⟩)))
  exact ⟨_, (EReal.coe_toReal h1 h2).symm⟩

/-- A sum of zeros and ones is positive exactly when one of them is a one. -/
theorem count_pos (P : ι → Prop) [DecidablePred P] : 0 < ∑ t, (if P t then (1 : EReal) else 0) ↔ ∃ t, P t := by
  constructor
  · intro h
    by_contra hn
    have hz : ∑ t, (if P t then (1 : EReal) else 0) = 0 :=
      Finset.sum_eq_zero fun t _ => if_neg fun ht => hn ⟨t, ht⟩
    rw [hz] at h; exact lt_irrefl _ h
  · rintro ⟨t, ht⟩
    have h1 : ∀ u, (0 : EReal) ≤ (if P u then (1 : EReal) else 0) := fun u => by split <;> simp
    calc (0 : EReal) < 1 := zero_lt_one
      _ = (if P t then (1 : EReal) else 0) := (if_pos ht).symm
      _ ≤ _ := Finset.single_le_sum (f := fun t => if P t then (1 : EReal) else 0) (fun u _ => h1 u) (Finset.mem_univ t)

/-- A sum of zeros and ones is the number of ones. -/
theorem count_eq (P : ι → Prop) [DecidablePred P] :
    ∑ t, (if P t then (1 : EReal) else 0) = (((Finset.univ.filter P).card : ℝ) : EReal) := by
  rw [Finset.card_filter, Nat.cast_sum, ← sum_real]
  refine Finset.sum_congr rfl fun t _ => ?_
  split <;> simp

end Cert.Softmax

end
-- ==== Proof.Spec.lean ====
/- The mathematics of chunk-gated attention over the extended reals, in coordinates: what the kernel and the reference
   are both shown to compute. -/
module

public import proofs.«01_k».proof.Proof.TopK
public import proofs.«01_k».proof.Proof.Softmax

@[expose] public section

noncomputable section

namespace Cert.Spec

open Idealize.ShloMosaic

/-- Column `d` of head `h`. -/
def col (h : Fin 16) (d : Fin 128) : Fin 2048 := ⟨h.val * 128 + d.val, by omega⟩

/-- Position `r` of chunk `c`. -/
def row (c : Fin 8) (r : Fin 256) : Fin 2048 := ⟨c.val * 256 + r.val, by omega⟩

/-- The chunk a position lies in. -/
def chunk (t : Fin 2048) : Fin 8 := ⟨t.val / 256, by omega⟩

/-- A square matrix of extended reals. -/
abbrev Mat := Fin 2048 → Fin 2048 → EReal

/-- One vector of 128 per position and head. -/
abbrev Heads := Fin 2048 → Fin 16 → Fin 128 → EReal

/-- The rotary angle of frequency `d` at position `s`. -/
def angle (s : Fin 2048) (d : Fin 64) : EReal :=
  (FloatOps.sitofp (F := Ideal) .f32 (BitVec.ofNat 32 s.val) : EReal) *
    Ideal.div 1 (Ideal.pow (Ideal.ofBits .f32 0x461C4000#32)
      (Ideal.div (FloatOps.sitofp (F := Ideal) .f32 (BitVec.ofNat 32 d.val)) (Ideal.ofBits .f32 0x42800000#32)))

/-- The rows of `X` against the rows of `W`, cut into heads. -/
def proj (X W : Mat) : Heads := fun s h d => ∑ k, X s k * W (col h d) k

/-- The rotary embedding: the two halves of each head's vector turned by the angles. -/
def rope (y : Heads) : Heads := fun s h d =>
  if hd : d.val < 64 then
    y s h d * Ideal.cos (angle s ⟨d.val, hd⟩) - y s h ⟨64 + d.val, by omega⟩ * Ideal.sin (angle s ⟨d.val, hd⟩)
  else
    y s h d * Ideal.cos (angle s ⟨d.val - 64, by omega⟩) + y s h ⟨d.val - 64, by omega⟩ * Ideal.sin (angle s ⟨d.val - 64, by omega⟩)

/-- The mean key of each chunk. -/
def keyMean (k : Heads) : Fin 8 → Fin 16 → Fin 128 → EReal := fun c h d =>
  Ideal.div (∑ r, k (row c r) h d) (Ideal.ofBits .f32 0x43800000#32)

/-- The gate of chunk `c` for the query at `s`: a later chunk never, its own always, an earlier one by its mean key. -/
def gate (q k : Heads) (h : Fin 16) (s : Fin 2048) (c : Fin 8) : EReal :=
  if c = chunk s then ⊤ else if chunk s < c then ⊥ else ∑ d, q s h d * keyMean k c h d

/-- The query at `s` attends to chunk `c`: fewer than four chunks come before it. -/
def Selected (q k : Heads) (h : Fin 16) (s : Fin 2048) (c : Fin 8) : Prop := TopK.rank (gate q k h s) c < 4

/-- The query at `s` attends to the position `t`: a selected chunk and not later. -/
def Sees (q k : Heads) (h : Fin 16) (s t : Fin 2048) : Prop := Selected q k h s (chunk t) ∧ t ≤ s

/-- Whether a chunk is selected can be decided. -/
instance (q k : Heads) (h : Fin 16) (s : Fin 2048) (c : Fin 8) : Decidable (Selected q k h s c) := by
  unfold Selected; infer_instance
/-- Whether a position is seen can be decided. -/
instance (q k : Heads) (h : Fin 16) (s : Fin 2048) : DecidablePred (Sees q k h s) := fun _ => by unfold Sees; infer_instance

/-- The query at `s` against the key at `t`. -/
def dotQK (q k : Heads) (h : Fin 16) (s t : Fin 2048) : EReal := ∑ d, q s h d * k t h d

/-- The score, a real: the product over the root of the length. -/
def score (q k : Heads) (h : Fin 16) (s t : Fin 2048) : ℝ := (dotQK q k h s t).toReal / Real.sqrt 128

/-- The attention of one head at one position. -/
def mix (q k v : Heads) : Heads := fun s h d => Softmax.attend (Sees q k h s) (score q k h s) (fun t => v t h d)

/-- The heads joined and projected. -/
def out (o : Heads) (WO : Mat) : Mat := fun s j => ∑ h, ∑ d, o s h d * WO j (col h d)

/-- The whole: queries and keys turned, values not. -/
def attention (X WQ WK WV WO : Mat) : Mat :=
  out (mix (rope (proj X WQ)) (rope (proj X WK)) (proj X WV)) WO

/-- A value that is a real. -/
def IsReal (x : EReal) : Prop := ∃ r : ℝ, x = (r : EReal)

/-- A sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type} [Fintype ι] {f : ι → EReal} (hf : ∀ i, IsReal (f i)) : IsReal (∑ i, f i) := by
  choose g hg using hf
  exact ⟨∑ i, g i, by rw [← Softmax.sum_real]; exact Finset.sum_congr rfl fun i _ => hg i⟩

/-- A real over a nonzero real is a real. -/
theorem div_real {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A real is not infinity. -/
theorem IsReal.ne_top {x : EReal} (hx : IsReal x) : x ≠ ⊤ := by obtain ⟨a, rfl⟩ := hx; exact EReal.coe_ne_top a

/-- A real is its own real part. -/
theorem IsReal.coe_toReal {x : EReal} (hx : IsReal x) : ((x.toReal : ℝ) : EReal) = x := by
  obtain ⟨a, rfl⟩ := hx; rw [EReal.toReal_coe]

/-- A projection of reals is real. -/
theorem proj_real {X W : Mat} (hX : ∀ s k, IsReal (X s k)) (hW : ∀ s k, IsReal (W s k)) (s : Fin 2048) (h : Fin 16)
    (d : Fin 128) : IsReal (proj X W s h d) := IsReal.sum fun k => (hX s k).mul (hW _ k)

/-- The single-precision pattern of 256. -/
theorem bits_256 : Ideal.ofBits .f32 0x43800000#32 = ((256 : ℝ) : EReal) := by
  simp [Ideal.ofBits, Ideal.ieee, -EReal.coe_mul]; norm_num

/-- The single-precision pattern of 128. -/
theorem bits_128 : Ideal.ofBits .f32 0x43000000#32 = ((128 : ℝ) : EReal) := by
  simp [Ideal.ofBits, Ideal.ieee, -EReal.coe_mul]; norm_num

/-- The single-precision pattern of 64. -/
theorem bits_64 : Ideal.ofBits .f32 0x42800000#32 = ((64 : ℝ) : EReal) := by
  simp [Ideal.ofBits, Ideal.ieee, -EReal.coe_mul]; norm_num

/-- The single-precision pattern of 10000. -/
theorem bits_10000 : Ideal.ofBits .f32 0x461C4000#32 = ((10000 : ℝ) : EReal) := by
  simp [Ideal.ofBits, Ideal.ieee, -EReal.coe_mul]; norm_num

/-- The single-precision pattern of 4. -/
theorem bits_4 : Ideal.ofBits .f32 0x40800000#32 = ((4 : ℝ) : EReal) := by
  simp [Ideal.ofBits, Ideal.ieee, -EReal.coe_mul]; norm_num

/-- The single-precision pattern of minus infinity. -/
theorem bits_bot : Ideal.ofBits .f32 0xFF800000#32 = ⊥ := by
  simp [Ideal.ofBits, Ideal.ieee]

/-- The single-precision pattern of infinity. -/
theorem bits_top : Ideal.ofBits .f32 0x7F800000#32 = ⊤ := by
  simp [Ideal.ofBits, Ideal.ieee]

/-- Every rotary angle is a real. -/
theorem angle_real (s : Fin 2048) (d : Fin 64) : IsReal (angle s d) := by
  unfold angle
  refine IsReal.mul ⟨_, rfl⟩ ?_
  rw [bits_64, bits_10000]
  have h1 : ∃ r : ℝ, (FloatOps.sitofp (F := Ideal) .f32 (BitVec.ofNat 32 d.val) : EReal) = (r : EReal) := ⟨_, rfl⟩
  obtain ⟨r, hr⟩ := h1
  rw [hr, div_real (by norm_num), Ideal.pow_coe_coe]
  have hp : (0 : ℝ) < Real.rpow 10000 (r / 64) := Real.rpow_pos_of_pos (by norm_num) _
  exact ⟨_, (div_real (a := 1) hp.ne')⟩

/-- The rotary embedding of reals is real. -/
theorem rope_real {y : Heads} (hy : ∀ s h d, IsReal (y s h d)) (s : Fin 2048) (h : Fin 16) (d : Fin 128) :
    IsReal (rope y s h d) := by
  have hc : ∀ s d, IsReal (Ideal.cos (angle s d)) := fun s d => by obtain ⟨a, ha⟩ := angle_real s d; rw [ha]; exact ⟨_, rfl⟩
  have hs : ∀ s d, IsReal (Ideal.sin (angle s d)) := fun s d => by obtain ⟨a, ha⟩ := angle_real s d; rw [ha]; exact ⟨_, rfl⟩
  unfold rope
  split
  · exact ((hy _ _ _).mul (hc _ _)).sub ((hy _ _ _).mul (hs _ _))
  · exact ((hy _ _ _).mul (hc _ _)).add ((hy _ _ _).mul (hs _ _))

/-- The mean key of real keys is real. -/
theorem keyMean_real {k : Heads} (hk : ∀ s h d, IsReal (k s h d)) (c : Fin 8) (h : Fin 16) (d : Fin 128) :
    IsReal (keyMean k c h d) := by
  unfold keyMean
  obtain ⟨a, ha⟩ := IsReal.sum fun r => hk (row c r) h d
  rw [ha, bits_256]
  exact ⟨_, div_real (by norm_num)⟩

/-- The product of a real query and a real key is real. -/
theorem dotQK_real {q k : Heads} (hq : ∀ s h d, IsReal (q s h d)) (hk : ∀ s h d, IsReal (k s h d)) (h : Fin 16)
    (s t : Fin 2048) : IsReal (dotQK q k h s t) := IsReal.sum fun d => (hq s h d).mul (hk t h d)

/-- The product of a real query and a real mean key is real. -/
theorem gate_real {q k : Heads} (hq : ∀ s h d, IsReal (q s h d)) (hk : ∀ s h d, IsReal (k s h d)) (h : Fin 16)
    (s : Fin 2048) (c : Fin 8) : IsReal (∑ d, q s h d * keyMean k c h d) :=
  IsReal.sum fun d => (hq s h d).mul (keyMean_real hk c h d)

/-- A query's own position is always seen, when the gates are reals. -/
theorem sees_self (q k : Heads) (hg : ∀ h s c, IsReal (∑ d, q s h d * keyMean k c h d)) (h : Fin 16) (s : Fin 2048) :
    Sees q k h s s := by
  refine ⟨?_, le_rfl⟩
  have h0 : (Finset.univ.filter fun b => TopK.Beats (gate q k h s) b (chunk s)) = ∅ := by
    refine Finset.filter_eq_empty_iff.mpr fun b _ hb => ?_
    have hs : gate q k h s (chunk s) = ⊤ := if_pos rfl
    rcases hb with hb | ⟨hb, hlt⟩
    · rw [hs] at hb; exact not_top_lt hb
    · rw [hs] at hb
      unfold gate at hb
      rw [if_neg hlt.ne, if_neg (not_lt.mpr hlt.le)] at hb
      exact (hg h s b).ne_top hb
  unfold Selected TopK.rank
  rw [h0]; exact Nat.succ_pos 3

end Cert.Spec

end
-- ==== Proof.HostVal.lean ====
/- The kernel's host operations read in coordinates: the matrices as given, the last one turned over, and the table of
   cosines and signed sines. -/
module

public import proofs.«01_k».proof.Proof.Gen.KernelIdeal.Frame
public import proofs.«01_k».proof.Proof.Spec
public import Idealize.ShloMosaic.Lib.Pointwise
public import Idealize.ShloMosaic.Lib.IdealHost
public import Idealize.ShloMosaic.Lib.StableHlo.ReadAt

@[expose] public section

set_option maxRecDepth 16384

noncomputable section

namespace Cert.HostVal

open Cert.KernelIdeal Cert.KernelIdeal.Gen Idealize.ShloMosaic Idealize.ShloMosaic.TcCoe Cert.Spec

variable (X : Valuation τ sig (Elt Ideal))

/-- The hidden states handed to the first call. -/
theorem x_at (s k : Fin 2048) : StableHlo.after (hostOps0 (F := Ideal)) X (Proc.devRef .tc main_v1) (ix2 s k)
    = X (Proc.devRef .tc main_arg0) (ix3 0 s k) := by
  after_reads_at

/-- The query matrix handed to the first call. -/
theorem wq_at (s k : Fin 2048) : StableHlo.after (hostOps0 (F := Ideal)) X (Proc.devRef .tc main_v2) (ix2 s k)
    = X (Proc.devRef .tc main_arg1) (ix2 s k) := by
  after_reads_at

/-- The key matrix handed to the first call. -/
theorem wk_at (s k : Fin 2048) : StableHlo.after (hostOps0 (F := Ideal)) X (Proc.devRef .tc main_v3) (ix2 s k)
    = X (Proc.devRef .tc main_arg2) (ix2 s k) := by
  after_reads_at

/-- The value matrix handed to the first call. -/
theorem wv_at (s k : Fin 2048) : StableHlo.after (hostOps0 (F := Ideal)) X (Proc.devRef .tc main_v4) (ix2 s k)
    = X (Proc.devRef .tc main_arg3) (ix2 s k) := by
  after_reads_at

/-- The last matrix handed to the second call: turned over. -/
theorem wo_at (s k : Fin 2048) : StableHlo.after (hostOps0 (F := Ideal)) X (Proc.devRef .tc main_v6) (ix2 s k)
    = X (Proc.devRef .tc main_arg4) (ix2 k s) := by
  after_reads_at

/-- The cosine a head's coordinate `d` is multiplied by. -/
def cosT (s : Fin 2048) (d : Fin 128) : EReal :=
  if hd : d.val < 64 then Ideal.cos (angle s ⟨d.val, hd⟩) else Ideal.cos (angle s ⟨d.val - 64, by omega⟩)

/-- The signed sine the coordinate across is multiplied by. -/
def sinT (s : Fin 2048) (d : Fin 128) : EReal :=
  if hd : d.val < 64 then - Ideal.sin (angle s ⟨d.val, hd⟩) else Ideal.sin (angle s ⟨d.val - 64, by omega⟩)

/-- The cosines of one head. -/
theorem cosT_at (s : Fin 2048) (d : Fin 128) :
    StableHlo.upto (hostOps0 (F := Ideal)) X 28 (Proc.devRef .tc main_v22) (ix2 s d) = cosT s d := by
  after_reads_at
  rfl

/-- The signed sines of one head. -/
theorem sinT_at (s : Fin 2048) (d : Fin 128) :
    StableHlo.upto (hostOps0 (F := Ideal)) X 28 (Proc.devRef .tc main_v24) (ix2 s d) = sinT s d := by
  after_reads_at
  rfl

/-- Four pieces of 128 in a row, the first two alike and the last two alike, read by the position in a piece. -/
theorem four (f g : Fin 128 → EReal) (k : Fin 512) :
    (if h : k.val < 128 then f ⟨k.val, h⟩ else if h : k.val - 128 < 128 then f ⟨k.val - 128, h⟩
      else if h : k.val - 128 - 128 < 128 then g ⟨k.val - 128 - 128, h⟩ else g ⟨k.val - 128 - 128 - 128, by omega⟩)
      = if k.val < 256 then f ⟨k.val % 128, by omega⟩ else g ⟨k.val % 128, by omega⟩ := by
  obtain ⟨k, hk⟩ := k
  dsimp only
  have e : ∀ (a b : ℕ) (ha : a < 128) (hb : b < 128), a = b → f ⟨a, ha⟩ = f ⟨b, hb⟩ := by rintro a b ha hb rfl; rfl
  have e' : ∀ (a b : ℕ) (ha : a < 128) (hb : b < 128), a = b → g ⟨a, ha⟩ = g ⟨b, hb⟩ := by rintro a b ha hb rfl; rfl
  split_ifs <;> first | omega | exact e _ _ _ _ (by omega) | exact e' _ _ _ _ (by omega)

/-- The table: the cosines of two heads, then their signed sines. -/
theorem table_at (s : Fin 2048) (k : Fin 512) :
    StableHlo.after (hostOps0 (F := Ideal)) X (Proc.devRef .tc main_v25) (ix2 s k)
      = if k.val < 256 then cosT s ⟨k.val % 128, by omega⟩ else sinT s ⟨k.val % 128, by omega⟩ := by
  have hc := cosT_at X
  have hs := sinT_at X
  rw [show StableHlo.after (hostOps0 (F := Ideal)) X
    = (StableHlo.nary ![main_v22, main_v22, main_v24, main_v24] main_v25 (fun u => (concatenate S2048x512 1 [⟨S2048x128, (u 0 : (⟨S2048x128, .f32⟩ : BufTy).Contents (Elt Ideal))⟩, ⟨S2048x128, (u 1 : (⟨S2048x128, .f32⟩ : BufTy).Contents (Elt Ideal))⟩, ⟨S2048x128, (u 2 : (⟨S2048x128, .f32⟩ : BufTy).Contents (Elt Ideal))⟩, ⟨S2048x128, (u 3 : (⟨S2048x128, .f32⟩ : BufTy).Contents (Elt Ideal))⟩] concatenates_S2048x128_S2048x128_S2048x128_S2048x128_S2048x512_d1))).result (StableHlo.upto hostOps0 X 28) from rfl]
  generalize StableHlo.upto (hostOps0 (F := Ideal)) X 28 = V at *
  rw [StableHlo.nary_result]
  generalize hA : (V (Proc.devRef .tc main_v22) : (⟨S2048x128, .f32⟩ : BufTy).Contents (Elt Ideal)) = A at *
  generalize hB : (V (Proc.devRef .tc main_v24) : (⟨S2048x128, .f32⟩ : BufTy).Contents (Elt Ideal)) = B at *
  have e : (concatenate S2048x512 1 [⟨S2048x128, A⟩, ⟨S2048x128, A⟩, ⟨S2048x128, B⟩, ⟨S2048x128, B⟩]
      concatenates_S2048x128_S2048x128_S2048x128_S2048x128_S2048x512_d1 : S2048x512.Idx → EReal) (ix2 s k)
      = if k.val < 256 then cosT s ⟨k.val % 128, by omega⟩ else sinT s ⟨k.val % 128, by omega⟩ := by
    clear hA hB
    pointwise
    simp only [hc, hs]
    exact four (cosT s) (sinT s) k
  rw [← hA, ← hB] at e
  exact e

/-- The chunk means handed to the second call: the first call's, without their middle axis. -/
theorem kg_at (c : Fin 8) (k : Fin 2048) : StableHlo.after (hostOps1 (F := Ideal)) X (Proc.devRef .tc main_v27) (ix2 c k)
    = X (Proc.devRef .tc main_v26_3) (ix3 c 0 k) := by
  after_reads_at

/-- The result: the second call's, with an axis in front. -/
theorem result_at (a : Fin 1) (s j : Fin 2048) : StableHlo.after (hostOps2 (F := Ideal)) X (Proc.devRef .tc main_v29) (ix3 a s j)
    = X (Proc.devRef .tc main_v28) (ix2 s j) := by
  after_reads_at

end Cert.HostVal

end
-- ==== Proof.Qkv.lean ====
/- The projection call of the kernel: what one block's body leaves in its four outputs, in coordinates. A block is one of
   two halves of the positions against two heads' columns; the blocks' places are parameters here. -/
module

public import proofs.«01_k».proof.Proof.HostVal
public import Idealize.ShloMosaic.Lib.Pipeline.ValueKit.Tiles

@[expose] public section

set_option maxRecDepth 16384

noncomputable section

namespace Cert.Qkv

open Cert.KernelIdeal Cert.KernelIdeal.Gen Idealize.ShloMosaic Cert.Spec Cert.HostVal

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The factor the keys are scaled by. -/
theorem scale_eq : (Ideal.div 1 (Scalar.sqrt (Ideal.ofBits .f32 0x43000000#32)) : EReal) = ((1 / Real.sqrt 128 : ℝ) : EReal) := by
  have h : (Scalar.sqrt (F := Ideal) (φ := .f32) (Ideal.ofBits .f32 0x43000000#32) : EReal) = ((Real.sqrt 128 : ℝ) : EReal) := by
    rw [bits_128]; exact (Ideal.sqrt_coe _).trans (if_neg (by norm_num))
  refine (congrArg (Ideal.div 1) h).trans ?_
  exact div_real (a := 1) (Real.sqrt_pos.mpr (by norm_num)).ne'

/-- The columns of the table that hold cosines. -/
theorem ld_cos (x : Vec Ideal S1024x512 .f32) (p : Fin 1024) (e : Fin 256) :
    View.ld x r0_1 (ix2 p e) = x (ix2 p (⟨e.val, by omega⟩ : Fin 512)) :=
  View.ld_unit_apply_of _ _ _ _ _ _ fun a => by
    match a with
    | ⟨0, _⟩ => show p.val = 0 + p.val; omega
    | ⟨1, _⟩ => show e.val = 0 + e.val; omega

/-- The columns of the table that hold signed sines. -/
theorem ld_sin (x : Vec Ideal S1024x512 .f32) (p : Fin 1024) (e : Fin 256) :
    View.ld x r0_2 (ix2 p e) = x (ix2 p (⟨256 + e.val, by omega⟩ : Fin 512)) :=
  View.ld_unit_apply_of _ _ _ _ _ _ fun a => by
    match a with
    | ⟨0, _⟩ => show p.val = 0 + p.val; omega
    | ⟨1, _⟩ => show 256 + e.val = 256 + e.val; rfl

/-- The block with every column turned, before it is stored: each column times its cosine and the column across in the
    same head times its signed sine. -/
theorem pay7_at (x : Vec Ideal S1024x2048 .bf16) (c s : Vec Ideal S1024x256 .f32) (w : Vec Ideal S256x2048 .bf16)
    (p : Fin 1024) (e : Fin 256) : k0_pay7 x c s w (ix2 p e) = (∑ k, x (ix2 p k) * w (ix2 e k)) * c (ix2 p e)
      + (∑ k, x (ix2 p k) * w (ix2 (⟨e.val / 128 * 128 + (e.val % 128 + 128 - 64) % 128, by omega⟩ : Fin 256) k)) * s (ix2 p e) := by
  unfold k0_pay7 k0_pay3 k0_pay4 k0_pay5
  pointwise

/-- The queries' block is the same function of its operands. -/
theorem pay6_at (x : Vec Ideal S1024x2048 .bf16) (c s : Vec Ideal S1024x256 .f32) (w : Vec Ideal S256x2048 .bf16)
    (p : Fin 1024) (e : Fin 256) : k0_pay6 x c s w (ix2 p e) = (∑ k, x (ix2 p k) * w (ix2 e k)) * c (ix2 p e)
      + (∑ k, x (ix2 p k) * w (ix2 (⟨e.val / 128 * 128 + (e.val % 128 + 128 - 64) % 128, by omega⟩ : Fin 256) k)) * s (ix2 p e) := by
  unfold k0_pay6 k0_pay3 k0_pay4 k0_pay5
  pointwise

/-- The scaled keys' block. -/
theorem pay8_at (x : Vec Ideal S1024x2048 .bf16) (c s : Vec Ideal S1024x256 .f32) (w : Vec Ideal S256x2048 .bf16)
    (p : Fin 1024) (e : Fin 256) : k0_pay8 x c s w (ix2 p e) = k0_pay7 x c s w (ix2 p e) * ((1 / Real.sqrt 128 : ℝ) : EReal) := by
  rw [← scale_eq]
  unfold k0_pay8
  generalize k0_pay7 x c s w = y
  pointwise

/-- The values' block. -/
theorem pay1_at (x : Vec Ideal S1024x2048 .bf16) (w : Vec Ideal S256x2048 .bf16) (p : Fin 1024) (e : Fin 256) :
    k0_pay1 (k0_pay3 x) (k0_pay9 w) (ix2 p e) = ∑ k, x (ix2 p k) * w (ix2 e k) := by
  unfold k0_pay1 k0_pay3 k0_pay9
  pointwise

/-- The chunk means' block. -/
theorem pay2_at (y : FVec Ideal S1024x256 .f32) (p : Fin 4) (e : Fin 256) : k0_pay2 y (ix3 p (0 : Fin 1) e)
    = Ideal.div (∑ r : Fin 256, y (ix2 (⟨p.val * 256 + r.val, by omega⟩ : Fin 1024) e)) (Ideal.ofBits .f32 0x43800000#32) := by
  unfold k0_pay2
  pointwise

section Block

variable (x0 : Vec Ideal S1024x2048 .bf16) (x1 x2 x3 : Vec Ideal S256x2048 .bf16) (x4 : Vec Ideal S1024x512 .f32)
variable (X W : Mat) (r j : ℕ)

/-- The block's rows are the positions from `r * 1024` on. -/
def HX : Prop := ∀ (p : Fin 1024) (s : Fin 2048), s.val = r * 1024 + p.val → ∀ k, x0 (ix2 p k) = X s k

/-- The block's matrix rows are the columns from `j * 256` on. -/
def HW (w : Vec Ideal S256x2048 .bf16) : Prop :=
  ∀ (e : Fin 256) (E : Fin 2048), E.val = j * 256 + e.val → ∀ k, w (ix2 e k) = W E k

/-- The block's table is the table of its positions. -/
def HT : Prop := ∀ (p : Fin 1024) (s : Fin 2048), s.val = r * 1024 + p.val → ∀ k : Fin 512,
  x4 (ix2 p k) = if k.val < 256 then cosT s ⟨k.val % 128, by omega⟩ else sinT s ⟨k.val % 128, by omega⟩

variable {x0 x1 x2 x3 x4 X W r j}

/-- The turning of a column by its cosine and the column across by its signed sine is the rotary embedding. -/
theorem turn_eq (y : Heads) (s : Fin 2048) (h : Fin 16) (d : Fin 128) :
    y s h d * cosT s d + y s h ⟨(d.val + 128 - 64) % 128, by omega⟩ * sinT s d = rope y s h d := by
  unfold rope cosT sinT
  by_cases hd : d.val < 64
  · rw [dif_pos hd, dif_pos hd, dif_pos hd, mul_neg, ← sub_eq_add_neg]
    rw [show (⟨(d.val + 128 - 64) % 128, by omega⟩ : Fin 128) = ⟨64 + d.val, by omega⟩ from Fin.ext (by show _ % 128 = 64 + d.val; omega)]
  · rw [dif_neg hd, dif_neg hd, dif_neg hd]
    rw [show (⟨(d.val + 128 - 64) % 128, by omega⟩ : Fin 128) = ⟨d.val - 64, by omega⟩ from Fin.ext (by show _ % 128 = d.val - 64; omega)]

/-- A block of positions against a block of matrix rows: the projection. -/
theorem dot_at {w : Vec Ideal S256x2048 .bf16} (h0 : HX x0 X r) (hw : HW W j w) (p : Fin 1024) (e : Fin 256) (s : Fin 2048)
    (h : Fin 16) (d : Fin 128) (hs : s.val = r * 1024 + p.val) (he : h.val * 128 + d.val = j * 256 + e.val) :
    ∑ k, x0 (ix2 p k) * w (ix2 e k) = proj X W s h d :=
  Finset.sum_congr rfl fun k _ => by rw [h0 p s hs k, hw e (col h d) he k]

/-- A turned block: the rotary embedding of the projection. -/
theorem turned_at {w : Vec Ideal S256x2048 .bf16} (h0 : HX x0 X r) (hw : HW W j w) (ht : HT x4 r) (p : Fin 1024) (e : Fin 256)
    (s : Fin 2048) (h : Fin 16) (d : Fin 128) (hs : s.val = r * 1024 + p.val) (he : h.val * 128 + d.val = j * 256 + e.val) :
    (∑ k, x0 (ix2 p k) * w (ix2 e k)) * View.ld x4 r0_1 (ix2 p e)
      + (∑ k, x0 (ix2 p k) * w (ix2 (⟨e.val / 128 * 128 + (e.val % 128 + 128 - 64) % 128, by omega⟩ : Fin 256) k)) * View.ld x4 r0_2 (ix2 p e)
      = rope (proj X W) s h d := by
  have hd : e.val % 128 = d.val := by omega
  rw [← turn_eq, dot_at h0 hw p e s h d hs he,
    dot_at h0 hw p _ s h ⟨(d.val + 128 - 64) % 128, by omega⟩ hs (by
      show h.val * 128 + (d.val + 128 - 64) % 128 = j * 256 + (e.val / 128 * 128 + (e.val % 128 + 128 - 64) % 128); omega),
    ld_cos, ld_sin, ht p s hs, ht p s hs, if_pos (show e.val < 256 from e.isLt), if_neg (show ¬ 256 + e.val < 256 by omega)]
  rw [show (⟨e.val % 128, by omega⟩ : Fin 128) = d from Fin.ext hd,
    show (⟨(256 + e.val) % 128, by omega⟩ : Fin 128) = d from Fin.ext (by show _ % 128 = d.val; omega)]

/-- The queries' block. -/
theorem q_at (h0 : HX x0 X r) (hw : HW W j x1) (ht : HT x4 r) (p : Fin 1024) (e : Fin 256) (s : Fin 2048) (h : Fin 16)
    (d : Fin 128) (hs : s.val = r * 1024 + p.val) (he : h.val * 128 + d.val = j * 256 + e.val) :
    out0_5 x0 x1 x2 x3 x4 (ix2 p e) = rope (proj X W) s h d := by
  unfold out0_5
  rw [View.canon_unit_zero hz2, View.ld_unit_zero hz2, View.ld_unit_zero hz2, pay6_at]
  exact turned_at h0 hw ht p e s h d hs he

/-- The keys' block, before any scaling. -/
theorem pre_at (h0 : HX x0 X r) (hw : HW W j x2) (ht : HT x4 r) (p : Fin 1024) (e : Fin 256) (s : Fin 2048) (h : Fin 16)
    (d : Fin 128) (hs : s.val = r * 1024 + p.val) (he : h.val * 128 + d.val = j * 256 + e.val) :
    k0_pay7 x0 (View.ld x4 r0_1) (View.ld x4 r0_2) x2 (ix2 p e) = rope (proj X W) s h d := by
  rw [pay7_at]
  exact turned_at h0 hw ht p e s h d hs he

/-- The keys' block: scaled. -/
theorem k_at (h0 : HX x0 X r) (hw : HW W j x2) (ht : HT x4 r) (p : Fin 1024) (e : Fin 256) (s : Fin 2048) (h : Fin 16)
    (d : Fin 128) (hs : s.val = r * 1024 + p.val) (he : h.val * 128 + d.val = j * 256 + e.val) :
    out0_6 x0 x1 x2 x3 x4 (ix2 p e) = rope (proj X W) s h d * ((1 / Real.sqrt 128 : ℝ) : EReal) := by
  unfold out0_6
  rw [View.canon_unit_zero hz2, View.ld_unit_zero hz2, View.ld_unit_zero hz2, pay8_at, pre_at h0 hw ht p e s h d hs he]

/-- The values' block. -/
theorem v_at (h0 : HX x0 X r) (hw : HW W j x3) (p : Fin 1024) (e : Fin 256) (s : Fin 2048) (h : Fin 16)
    (d : Fin 128) (hs : s.val = r * 1024 + p.val) (he : h.val * 128 + d.val = j * 256 + e.val) :
    out0_7 x0 x1 x2 x3 x4 (ix2 p e) = proj X W s h d := by
  unfold out0_7
  rw [View.canon_unit_zero hz2, View.ld_unit_zero hz2, View.ld_unit_zero hz2, pay1_at]
  exact dot_at h0 hw p e s h d hs he

/-- The chunk means' block: of the keys before scaling. -/
theorem kg_at (h0 : HX x0 X r) (hw : HW W j x2) (ht : HT x4 r) (p : Fin 4) (e : Fin 256) (c : Fin 8) (h : Fin 16)
    (d : Fin 128) (hc : c.val = r * 4 + p.val) (he : h.val * 128 + d.val = j * 256 + e.val) :
    out0_8 x0 x1 x2 x3 x4 (ix3 p (0 : Fin 1) e) = keyMean (rope (proj X W)) c h d := by
  unfold out0_8
  rw [View.canon_unit_zero hz3, View.ld_unit_zero hz2, View.ld_unit_zero hz2, pay2_at]
  unfold keyMean
  refine congrArg (fun y => Ideal.div y _) (Finset.sum_congr rfl fun a _ => ?_)
  exact pre_at h0 hw ht _ e (row c a) h d (by show c.val * 256 + a.val = r * 1024 + (p.val * 256 + a.val); omega) he

end Block

end Cert.Qkv

end
-- ==== Proof.Words.lean ====
/- Comparisons of small 32-bit words as comparisons of the numbers they hold. -/
module

public import Idealize.ShloMosaic.PureOps

@[expose] public section

namespace Cert.Words

open Idealize.ShloMosaic

/-- A small number as a word, read with its sign, is itself. -/
theorem toInt_small (a : Nat) (h : a < 2147483648) : (BitVec.ofNat 32 a).toInt = (a : Int) := by
  rw [BitVec.toInt_eq_toNat_cond, BitVec.toNat_ofNat, Nat.mod_eq_of_lt (by omega)]
  rw [if_pos (by omega)]

/-- The product of two words is the word of the product. -/
theorem mul_word (a b : Nat) : IntOp.muli (BitVec.ofNat 32 a) (BitVec.ofNat 32 b) = BitVec.ofNat 32 (a * b) := by
  show BitVec.ofNat 32 a * BitVec.ofNat 32 b = _
  rw [BitVec.ofNat_mul]

/-- The sum of two words is the word of the sum. -/
theorem add_word (a b : Nat) : IntOp.addi (BitVec.ofNat 32 a) (BitVec.ofNat 32 b) = BitVec.ofNat 32 (a + b) := by
  show BitVec.ofNat 32 a + BitVec.ofNat 32 b = _
  rw [BitVec.ofNat_add]

/-- A truth value as a one-bit word. -/
theorem bool_word (b : Bool) : BitVec.ofBool b = if b then 1#1 else 0#1 := by cases b <;> rfl

/-- Less than, of two small words. -/
theorem slt_word (a b : Nat) (ha : a < 2147483648) (hb : b < 2147483648) :
    IntOp.cmpi .slt (BitVec.ofNat 32 a) (BitVec.ofNat 32 b) = if a < b then 1#1 else 0#1 := by
  show BitVec.ofBool (BitVec.slt _ _) = _
  rw [BitVec.slt_eq_decide, toInt_small a ha, toInt_small b hb, bool_word]
  simp

/-- At least, of two small words. -/
theorem sge_word (a b : Nat) (ha : a < 2147483648) (hb : b < 2147483648) :
    IntOp.cmpi .sge (BitVec.ofNat 32 a) (BitVec.ofNat 32 b) = if b ≤ a then 1#1 else 0#1 := by
  show BitVec.ofBool (BitVec.sle _ _) = _
  rw [BitVec.sle_eq_decide, toInt_small a ha, toInt_small b hb, bool_word]
  simp

/-- Greater than, of two small words. -/
theorem sgt_word (a b : Nat) (ha : a < 2147483648) (hb : b < 2147483648) :
    IntOp.cmpi .sgt (BitVec.ofNat 32 a) (BitVec.ofNat 32 b) = if b < a then 1#1 else 0#1 := by
  show BitVec.ofBool (BitVec.slt _ _) = _
  rw [BitVec.slt_eq_decide, toInt_small a ha, toInt_small b hb, bool_word]
  simp

/-- Equality of two small words. -/
theorem eq_word (a b : Nat) (ha : a < 2147483648) (hb : b < 2147483648) :
    IntOp.cmpi .eq (BitVec.ofNat 32 a) (BitVec.ofNat 32 b) = if a = b then 1#1 else 0#1 := by
  have h : (BitVec.ofNat 32 a = BitVec.ofNat 32 b) ↔ a = b := by
    constructor
    · intro h
      have := congrArg BitVec.toInt h
      rw [toInt_small a ha, toInt_small b hb] at this
      exact_mod_cast this
    · rintro rfl; rfl
  show BitVec.ofBool (BitVec.ofNat 32 a == BitVec.ofNat 32 b) = _
  rw [bool_word]
  simp only [beq_iff_eq, h]

end Cert.Words
-- ==== Proof.Head.lean ====
/- The attention call of the kernel: what one block's body leaves, in coordinates. Its heads are cut from the program
   in different places, so the block is first folded into one step per head (`out_accum`); everything after is shown once,
   for any head. -/
module

public import proofs.«01_k».proof.Proof.Gen.KernelIdeal.Frame
public import proofs.«01_k».proof.Proof.Spec
public import proofs.«01_k».proof.Proof.Words
public import Idealize.ShloMosaic.Lib.Pointwise
public import Idealize.ShloMosaic.Lib.IdealHost
public import Idealize.ShloMosaic.Lib.Pipeline.ValueKit.Tiles

@[expose] public section

set_option maxRecDepth 16384

noncomputable section

namespace Cert.Head

open Cert.KernelIdeal Cert.KernelIdeal.Gen Idealize.ShloMosaic Cert.Spec

/-- The named constant that stands below every gate. -/
theorem neg_eq : Named.named (F := Ideal) (φ := .f32) κ "neg" 0xF149F2CA#32 = ⊥ :=
  IdealRules.named_const.ideal_named_scalar _ _ _ _ rfl

/-- The named constant that stands above every gate. -/
theorem pos_eq : Named.named (F := Ideal) (φ := .f32) κ "pos" 0x7149F2CA#32 = ⊤ :=
  IdealRules.named_const.ideal_named_scalar _ _ _ _ rfl

/-- One head's part of a block: the sum so far and the head's own projected attention. -/
def step (i : grid1.Coords) (q : Vec Ideal S256x128 .bf16) (g : Vec Ideal S8x128 .f32) (k v : Vec Ideal S2048x128 .bf16)
    (w : Vec Ideal S128x2048 .bf16) (acc : FVec Ideal S256x2048 .f32) : FVec Ideal S256x2048 .f32 :=
  k1_pay6 (k1_pay2 i) acc (k1_pay4 q) (k1_pay5 i q g) k v w

/-- Head `h`'s columns of a block of rows. -/
def qRect (h : ℕ) (hh : h < 16) : Rect S256x2048 := Rect.unit (s := S256x2048) ![0, 128 * h] S256x128.size (by
  intro a; match a with | ⟨0, _⟩ => exact Nat.le_refl _ | ⟨1, _⟩ => show 128 * h + 128 ≤ 2048; omega)

/-- Head `h`'s columns of the chunk means. -/
def gRect (h : ℕ) (hh : h < 16) : Rect S8x2048 := Rect.unit (s := S8x2048) ![0, 128 * h] S8x128.size (by
  intro a; match a with | ⟨0, _⟩ => exact Nat.le_refl _ | ⟨1, _⟩ => show 128 * h + 128 ≤ 2048; omega)

/-- Head `h`'s columns of all rows. -/
def kRect (h : ℕ) (hh : h < 16) : Rect S2048x2048 := Rect.unit (s := S2048x2048) ![0, 128 * h] S2048x128.size (by
  intro a; match a with | ⟨0, _⟩ => exact Nat.le_refl _ | ⟨1, _⟩ => show 128 * h + 128 ≤ 2048; omega)

/-- Head `h`'s rows of the last projection. -/
def oRect (h : ℕ) (hh : h < 16) : Rect S2048x2048 := Rect.unit (s := S2048x2048) ![128 * h, 0] S128x2048.size (by
  intro a; match a with | ⟨0, _⟩ => show 128 * h + 128 ≤ 2048; omega | ⟨1, _⟩ => exact Nat.le_refl _)

/-- A block after its first `n` heads. -/
def accum (i : grid1.Coords) (x0 : Vec Ideal S256x2048 .bf16) (x1 x2 : Vec Ideal S2048x2048 .bf16) (x3 : Vec Ideal S8x2048 .f32)
    (x4 : Vec Ideal S2048x2048 .bf16) : (n : ℕ) → n ≤ 16 → FVec Ideal S256x2048 .f32
  | 0, _ => k1_pay3
  | n + 1, hn => step i (View.ld x0 (qRect n hn)) (View.ld x3 (gRect n hn)) (View.ld x1 (kRect n hn)) (View.ld x2 (kRect n hn))
      (View.ld x4 (oRect n hn)) (accum i x0 x1 x2 x3 x4 n (by omega))

/-- What the body leaves is the block after all its heads. -/
theorem out_accum (i : grid1.Coords) (x0 : Vec Ideal S256x2048 .bf16) (x1 x2 : Vec Ideal S2048x2048 .bf16) (x3 : Vec Ideal S8x2048 .f32)
    (x4 : Vec Ideal S2048x2048 .bf16) :
    out1_5 i x0 x1 x2 x3 x4 = View.canon [⟨r1_64, accum i x0 x1 x2 x3 x4 16 (le_refl 16)⟩] := rfl

/-- One head's columns of a block, at an index. -/
theorem ld_q (x : Vec Ideal S256x2048 .bf16) (h : Fin 16) (r : Fin 256) (d : Fin 128) :
    View.ld x (qRect h.val h.isLt) (ix2 r d) = x (ix2 r (col h d)) :=
  View.ld_unit_apply_of _ _ _ _ _ _ fun a => by
    match a with
    | ⟨0, _⟩ => show r.val = 0 + r.val; omega
    | ⟨1, _⟩ => show h.val * 128 + d.val = 128 * h.val + d.val; omega

/-- One head's columns of the chunk means, at an index. -/
theorem ld_g (x : Vec Ideal S8x2048 .f32) (h : Fin 16) (r : Fin 8) (d : Fin 128) :
    View.ld x (gRect h.val h.isLt) (ix2 r d) = x (ix2 r (col h d)) :=
  View.ld_unit_apply_of _ _ _ _ _ _ fun a => by
    match a with
    | ⟨0, _⟩ => show r.val = 0 + r.val; omega
    | ⟨1, _⟩ => show h.val * 128 + d.val = 128 * h.val + d.val; omega

/-- One head's columns of all rows, at an index. -/
theorem ld_k (x : Vec Ideal S2048x2048 .bf16) (h : Fin 16) (r : Fin 2048) (d : Fin 128) :
    View.ld x (kRect h.val h.isLt) (ix2 r d) = x (ix2 r (col h d)) :=
  View.ld_unit_apply_of _ _ _ _ _ _ fun a => by
    match a with
    | ⟨0, _⟩ => show r.val = 0 + r.val; omega
    | ⟨1, _⟩ => show h.val * 128 + d.val = 128 * h.val + d.val; omega

/-- One head's rows of the last projection, at an index. -/
theorem ld_o (x : Vec Ideal S2048x2048 .bf16) (h : Fin 16) (d : Fin 128) (j : Fin 2048) :
    View.ld x (oRect h.val h.isLt) (ix2 d j) = x (ix2 (col h d) j) :=
  View.ld_unit_apply_of _ _ _ _ _ _ fun a => by
    match a with
    | ⟨0, _⟩ => show h.val * 128 + d.val = 128 * h.val + d.val; omega
    | ⟨1, _⟩ => show j.val = 0 + j.val; omega

/-- The causal part of a block's mask: nothing at a position not later than the row's, minus infinity after it. -/
theorem causal_at (i : grid1.Coords) (b : Fin 8) (hb : (i 0).val = b.val) (r : Fin 256) (t : Fin 2048) :
    k1_pay2 (F := Ideal) i (ix2 r t) = if t ≤ row b r then (0 : EReal) else ⊥ := by
  unfold k1_pay2
  pointwise
  rw [neg_eq, hb]
  show Scalar.select (IntOp.cmpi _ (IntOp.addi (IntOp.muli _ _) _) _) _ _ = _
  rw [Words.mul_word b.val 256, Words.add_word, Words.sge_word _ _ (by omega) (by omega)]
  by_cases h : t ≤ row b r
  · have h' : t.val ≤ b.val * 256 + r.val := h
    rw [if_pos h, if_pos h']; rfl
  · have h' : ¬ t.val ≤ b.val * 256 + r.val := h
    rw [if_neg h, if_neg h']; rfl

/-- The gate the kernel forms for chunk `c`. -/
theorem gate_word (b c : Fin 8) (x : EReal) :
    Scalar.select (IntOp.cmpi CmpIPredicate.eq (BitVec.ofNat 32 c.val) (BitVec.ofNat 32 b.val)) (⊤ : EReal)
      (Scalar.select (IntOp.cmpi CmpIPredicate.sgt (BitVec.ofNat 32 c.val) (BitVec.ofNat 32 b.val)) (⊥ : EReal) x)
      = if c = b then ⊤ else if b < c then ⊥ else x := by
  rw [Words.eq_word _ _ (by omega) (by omega), Words.sgt_word _ _ (by omega) (by omega)]
  by_cases h1 : c = b
  · rw [if_pos h1, if_pos (congrArg Fin.val h1)]; rfl
  · rw [if_neg h1, if_neg (fun h => h1 (Fin.ext h))]
    by_cases h2 : b < c
    · rw [if_pos h2, if_pos (show b.val < c.val from h2)]; rfl
    · rw [if_neg h2, if_neg (show ¬ b.val < c.val from h2)]; rfl

/-- A comparison of two chunks, counted. -/
theorem beats_word (G : Fin 8 → EReal) (c x : Fin 8) :
    FloatOps.sitofp (F := Ideal) .f32 (BitVec.setWidth 32
      (IntOp.ori (BitVec.ofBool (decide (G c < G x)))
        (IntOp.andi (BitVec.ofBool (decide (G x = G c))) (IntOp.cmpi CmpIPredicate.slt (BitVec.ofNat 32 x.val) (BitVec.ofNat 32 c.val)))))
      = if TopK.Beats G x c then (1 : EReal) else 0 := by
  have h1 : ((((BitVec.setWidth 32 (1#1)).toInt : ℝ)) : EReal) = 1 := by
    rw [show (BitVec.setWidth 32 (1#1)).toInt = 1 from by decide]; norm_num
  have h0 : ((((BitVec.setWidth 32 (0#1)).toInt : ℝ)) : EReal) = 0 := by
    rw [show (BitVec.setWidth 32 (0#1)).toInt = 0 from by decide]; norm_num
  have key : ∀ (A B C : Prop) [Decidable A] [Decidable B] [Decidable C],
      ((((BitVec.setWidth 32 (IntOp.ori (if decide A then 1#1 else 0#1)
        (IntOp.andi (if decide B then 1#1 else 0#1) (if C then 1#1 else 0#1)))).toInt : ℝ)) : EReal)
        = if A ∨ (B ∧ C) then (1 : EReal) else 0 := by
    intro A B C _ _ _
    by_cases a1 : A <;> by_cases a2 : B <;> by_cases a3 : C <;> simp only [a1, a2, a3, decide_true, decide_false, if_true, if_false,
      true_or, false_or, true_and, and_self, and_false, Bool.false_eq_true] <;>
      first | exact h1 | exact h0
  rw [Words.slt_word _ _ (by omega) (by omega), Words.bool_word, Words.bool_word]
  exact key (G c < G x) (G x = G c) (x.val < c.val)

/-- The chunks the kernel keeps for a row. -/
theorem pick_at (i : grid1.Coords) (b : Fin 8) (hb : (i 0).val = b.val) (q : Vec Ideal S256x128 .bf16) (g : Vec Ideal S8x128 .f32)
    (r : Fin 256) (G : Fin 8 → EReal)
    (hG : ∀ c, G c = if c = b then ⊤ else if b < c then ⊥ else ∑ d : Fin 128, q (ix2 r d) * g (ix2 c d)) (c : Fin 8) :
    k1_pay5 (F := Ideal) i q g (ix2 r c) = BitVec.setWidth 32 (if TopK.rank G c < 4 then 1#1 else 0#1) := by
  unfold k1_pay5 k1_pay4
  pointwise
  rw [hb]
  simp only [neg_eq, pos_eq, gate_word, ← hG, beats_word]
  rw [Softmax.count_eq, bits_4, Words.bool_word]
  congr 1
  refine if_congr ?_ rfl rfl
  rw [decide_eq_true_iff, EReal.coe_lt_coe_iff]
  unfold TopK.rank
  exact_mod_cast Iff.rfl

/-- One head added to a block, in coordinates. -/
theorem step_at (i : grid1.Coords) (b : Fin 8) (hb : (i 0).val = b.val) (q : Vec Ideal S256x128 .bf16) (g : Vec Ideal S8x128 .f32)
    (k v : Vec Ideal S2048x128 .bf16) (w : Vec Ideal S128x2048 .bf16) (acc : FVec Ideal S256x2048 .f32)
    (Q K V : Heads) (h : Fin 16) (WO : Mat) (hQ : ∀ s h d, IsReal (Q s h d)) (hK : ∀ s h d, IsReal (K s h d))
    (hq : ∀ r d, q (ix2 r d) = Q (row b r) h d) (hg : ∀ c d, g (ix2 c d) = keyMean K c h d)
    (hk : ∀ t d, k (ix2 t d) = K t h d * ((1 / Real.sqrt 128 : ℝ) : EReal)) (hv : ∀ t d, v (ix2 t d) = V t h d)
    (hw : ∀ d j, w (ix2 d j) = WO j (col h d)) (r : Fin 256) (j : Fin 2048) :
    step i q g k v w acc (ix2 r j) = acc (ix2 r j) + ∑ d, mix Q K V (row b r) h d * WO j (col h d) := by
  have hch : chunk (row b r) = b := Fin.ext (by show (b.val * 256 + r.val) / 256 = b.val; omega)
  have hp := pick_at i b hb q g r (gate Q K h (row b r)) (fun c => by
    unfold gate; rw [hch]; simp only [hq, hg])
  have hc := causal_at i b hb r
  unfold step k1_pay6 k1_pay4
  generalize k1_pay2 (F := Ideal) i = m at *
  generalize k1_pay5 (F := Ideal) i q g = p at *
  pointwise
  simp only [hp, hc, hq, hk, hv, hw]
  congr 1
  refine Finset.sum_congr rfl fun d _ => ?_
  congr 1
  refine Softmax.attend_unshifted (Sees Q K h (row b r)) (score Q K h (row b r)) (fun t => V t h d) _
    ⟨row b r, sees_self Q K (gate_real hQ hK) h (row b r)⟩ fun t => ?_
  have hs : ∑ d, Q (row b r) h d * (K t h d * ((1 / Real.sqrt 128 : ℝ) : EReal)) = (score Q K h (row b r) t : EReal) := by
    choose a ha using fun d => hQ (row b r) h d
    choose e he using fun d => hK t h d
    unfold score dotQK
    simp only [ha, he, ← EReal.coe_mul]
    rw [Softmax.sum_real, Softmax.sum_real, EReal.toReal_coe, Finset.sum_div]
    congr 1
    exact Finset.sum_congr rfl fun d _ => by ring
  rw [hs]
  show Ideal.exp _ * FloatOps.sitofp (F := Ideal) .f32 (BitVec.setWidth 32 (if Selected Q K h (row b r) (chunk t) then 1#1 else 0#1)) = _
  have h1 : FloatOps.sitofp (F := Ideal) .f32 (BitVec.setWidth 32 (1#1)) = (1 : EReal) := by
    show ((((BitVec.setWidth 32 (1#1)).toInt : ℝ)) : EReal) = 1
    rw [show (BitVec.setWidth 32 (1#1)).toInt = 1 from by decide]; norm_num
  have h0 : FloatOps.sitofp (F := Ideal) .f32 (BitVec.setWidth 32 (0#1)) = (0 : EReal) := by
    show ((((BitVec.setWidth 32 (0#1)).toInt : ℝ)) : EReal) = 0
    rw [show (BitVec.setWidth 32 (0#1)).toInt = 0 from by decide]; norm_num
  by_cases a1 : Selected Q K h (row b r) (chunk t)
  · by_cases a2 : t ≤ row b r
    · have hS : Sees Q K h (row b r) t := ⟨a1, a2⟩
      rw [if_pos a2, if_pos a1, if_pos hS, h1, mul_one, add_zero, Ideal.exp_coe]
    · have hS : ¬ Sees Q K h (row b r) t := fun x => a2 x.2
      rw [if_neg a2, if_pos a1, if_neg hS, EReal.add_bot, h1, mul_one]
      rfl
  · have hS : ¬ Sees Q K h (row b r) t := fun x => a1 x.1
    rw [if_neg a1, if_neg hS, h0, mul_zero]
    rfl

/-- A block after its first heads, in coordinates. -/
theorem accum_at (i : grid1.Coords) (b : Fin 8) (hb : (i 0).val = b.val) (x0 : Vec Ideal S256x2048 .bf16)
    (x1 x2 : Vec Ideal S2048x2048 .bf16) (x3 : Vec Ideal S8x2048 .f32) (x4 : Vec Ideal S2048x2048 .bf16)
    (Q K V : Heads) (WO : Mat) (hQ : ∀ s h d, IsReal (Q s h d)) (hK : ∀ s h d, IsReal (K s h d))
    (h0 : ∀ r h d, x0 (ix2 r (col h d)) = Q (row b r) h d) (h3 : ∀ c h d, x3 (ix2 c (col h d)) = keyMean K c h d)
    (h1 : ∀ t h d, x1 (ix2 t (col h d)) = K t h d * ((1 / Real.sqrt 128 : ℝ) : EReal))
    (h2 : ∀ t h d, x2 (ix2 t (col h d)) = V t h d) (h4 : ∀ c j, x4 (ix2 c j) = WO j c) (r : Fin 256) (j : Fin 2048) :
    ∀ (n : ℕ) (hn : n ≤ 16), accum i x0 x1 x2 x3 x4 n hn (ix2 r j)
      = ∑ h : Fin n, ∑ d, mix Q K V (row b r) (h.castLE hn) d * WO j (col (h.castLE hn) d) := by
  intro n
  induction n with
  | zero =>
    intro hn
    unfold accum k1_pay3
    pointwise
    rfl
  | succ n ih =>
    intro hn
    unfold accum
    rw [step_at i b hb _ _ _ _ _ _ Q K V ⟨n, hn⟩ WO hQ hK (fun r d => (ld_q x0 ⟨n, hn⟩ r d).trans (h0 _ _ _))
      (fun c d => (ld_g x3 ⟨n, hn⟩ c d).trans (h3 _ _ _)) (fun t d => (ld_k x1 ⟨n, hn⟩ t d).trans (h1 _ _ _))
      (fun t d => (ld_k x2 ⟨n, hn⟩ t d).trans (h2 _ _ _)) (fun d j => (ld_o x4 ⟨n, hn⟩ d j).trans (h4 _ _)), ih]
    exact (Fin.sum_univ_castSucc fun h : Fin (n + 1) => ∑ d, mix Q K V (row b r) (h.castLE hn) d * WO j (col (h.castLE hn) d)).symm

/-- What the body of a block leaves, in coordinates. -/
theorem out_at (i : grid1.Coords) (b : Fin 8) (hb : (i 0).val = b.val) (x0 : Vec Ideal S256x2048 .bf16)
    (x1 x2 : Vec Ideal S2048x2048 .bf16) (x3 : Vec Ideal S8x2048 .f32) (x4 : Vec Ideal S2048x2048 .bf16)
    (Q K V : Heads) (WO : Mat) (hQ : ∀ s h d, IsReal (Q s h d)) (hK : ∀ s h d, IsReal (K s h d))
    (h0 : ∀ r h d, x0 (ix2 r (col h d)) = Q (row b r) h d) (h3 : ∀ c h d, x3 (ix2 c (col h d)) = keyMean K c h d)
    (h1 : ∀ t h d, x1 (ix2 t (col h d)) = K t h d * ((1 / Real.sqrt 128 : ℝ) : EReal))
    (h2 : ∀ t h d, x2 (ix2 t (col h d)) = V t h d) (h4 : ∀ c j, x4 (ix2 c j) = WO j c) (r : Fin 256) (j : Fin 2048) :
    out1_5 i x0 x1 x2 x3 x4 (ix2 r j) = out (mix Q K V) WO (row b r) j := by
  rw [out_accum, View.canon_cons_unit_zero (by funext a; match a with | ⟨0, _⟩ => rfl | ⟨1, _⟩ => rfl)]
  exact accum_at i b hb x0 x1 x2 x3 x4 Q K V WO hQ hK h0 h3 h1 h2 h4 r j 16 (le_refl 16)

end Cert.Head

end
-- ==== Proof.Arrays.lean ====
/- The arrays the two kernel calls leave, in coordinates, from the arrays they find: each is put together from its blocks,
   every block being one grid point's. -/
module

public import proofs.«01_k».proof.Proof.Qkv
public import proofs.«01_k».proof.Proof.Head
public import Idealize.ShloMosaic.Lib.Pipeline.ValueKit

@[expose] public section

set_option maxRecDepth 16384

noncomputable section

namespace Cert.Arrays

open Cert.KernelIdeal Cert.KernelIdeal.Gen Idealize.ShloMosaic Idealize.ShloMosaic.TcCoe Cert.Spec Cert.HostVal
open Idealize.ShloMosaic.Pipeline (Dat)

variable (V : (c : Dev nD) → (b : Ref sig .tc) → Buf (Elt Ideal) ((c : Thread nD τ).loc b)) (c : Dev nD)

/-- Two numbers that name a column name its head and place. -/
theorem ix2_col {n : ℕ} {i : (⟨2, ![n, 2048]⟩ : Shape).Idx} {s : Fin n} {h : Fin 16} {d : Fin 128} (e : i = ix2 s (col h d)) :
    (i 0).val = s.val ∧ (i 1).val = h.val * 128 + d.val := by subst e; exact ⟨rfl, rfl⟩

/-! ## The projection call -/

/-- The hidden states move with the half of the positions. -/
theorem idx0_0 : ∀ t : Fin cfg0.N, win0_0.index t (0 : Fin 2) = t.val / 8 ∧ win0_0.index t (1 : Fin 2) = 0 :=
  (by decide +kernel : ∀ t : Fin grid0.N, _)
/-- The query matrix moves with the pair of heads. -/
theorem idx0_1 : ∀ t : Fin cfg0.N, win0_1.index t (0 : Fin 2) = t.val % 8 ∧ win0_1.index t (1 : Fin 2) = 0 :=
  (by decide +kernel : ∀ t : Fin grid0.N, _)
/-- The key matrix moves with the pair of heads. -/
theorem idx0_2 : ∀ t : Fin cfg0.N, win0_2.index t (0 : Fin 2) = t.val % 8 ∧ win0_2.index t (1 : Fin 2) = 0 :=
  (by decide +kernel : ∀ t : Fin grid0.N, _)
/-- The value matrix moves with the pair of heads. -/
theorem idx0_3 : ∀ t : Fin cfg0.N, win0_3.index t (0 : Fin 2) = t.val % 8 ∧ win0_3.index t (1 : Fin 2) = 0 :=
  (by decide +kernel : ∀ t : Fin grid0.N, _)
/-- The table moves with the half of the positions. -/
theorem idx0_4 : ∀ t : Fin cfg0.N, win0_4.index t (0 : Fin 2) = t.val / 8 ∧ win0_4.index t (1 : Fin 2) = 0 :=
  (by decide +kernel : ∀ t : Fin grid0.N, _)
/-- The queries move with both. -/
theorem idx0_5 : ∀ t : Fin cfg0.N, win0_5.index t (0 : Fin 2) = t.val / 8 ∧ win0_5.index t (1 : Fin 2) = t.val % 8 :=
  (by decide +kernel : ∀ t : Fin grid0.N, _)
/-- The keys move with both. -/
theorem idx0_6 : ∀ t : Fin cfg0.N, win0_6.index t (0 : Fin 2) = t.val / 8 ∧ win0_6.index t (1 : Fin 2) = t.val % 8 :=
  (by decide +kernel : ∀ t : Fin grid0.N, _)
/-- The values move with both. -/
theorem idx0_7 : ∀ t : Fin cfg0.N, win0_7.index t (0 : Fin 2) = t.val / 8 ∧ win0_7.index t (1 : Fin 2) = t.val % 8 :=
  (by decide +kernel : ∀ t : Fin grid0.N, _)
/-- The chunk means move with both. -/
theorem idx0_8 : ∀ t : Fin cfg0.N, win0_8.index t (0 : Fin 3) = t.val / 8 ∧ win0_8.index t (1 : Fin 3) = 0
    ∧ win0_8.index t (2 : Fin 3) = t.val % 8 :=
  (by decide +kernel : ∀ t : Fin grid0.N, _)

/-- The block of positions a point is given. -/
theorem blkX {X : Mat} (hX : ∀ s k, V c main_v1 (ix2 s k) = X s k) (t : Fin cfg0.N) : Qkv.HX (iblk0 V c 0 t) X (t.val / 8) := by
  intro p s hs k
  obtain ⟨e0, e1⟩ := idx0_0 t
  refine Eq.trans ?_ (hX s k)
  show V c main_v1 (((cfg0.win 0).blk t).view.emb (ix2 p k)) = _
  refine congrArg (V c main_v1) (funext fun a => Fin.ext ?_)
  match a with
  | ⟨0, _⟩ => show win0_0.index t (0 : Fin 2) * 1024 + 1 * p.val = s.val; omega
  | ⟨1, _⟩ => show win0_0.index t (1 : Fin 2) * 2048 + 1 * k.val = k.val; omega

/-- The block of the query matrix a point is given. -/
theorem blkWQ {W : Mat} (hW : ∀ s k, V c main_v2 (ix2 s k) = W s k) (t : Fin cfg0.N) : Qkv.HW W (t.val % 8) (iblk0 V c 1 t) := by
  intro e E he k
  obtain ⟨e0, e1⟩ := idx0_1 t
  refine Eq.trans ?_ (hW E k)
  show V c main_v2 (((cfg0.win 1).blk t).view.emb (ix2 e k)) = _
  refine congrArg (V c main_v2) (funext fun a => Fin.ext ?_)
  match a with
  | ⟨0, _⟩ => show win0_1.index t (0 : Fin 2) * 256 + 1 * e.val = E.val; omega
  | ⟨1, _⟩ => show win0_1.index t (1 : Fin 2) * 2048 + 1 * k.val = k.val; omega

/-- The block of the key matrix a point is given. -/
theorem blkWK {W : Mat} (hW : ∀ s k, V c main_v3 (ix2 s k) = W s k) (t : Fin cfg0.N) : Qkv.HW W (t.val % 8) (iblk0 V c 2 t) := by
  intro e E he k
  obtain ⟨e0, e1⟩ := idx0_2 t
  refine Eq.trans ?_ (hW E k)
  show V c main_v3 (((cfg0.win 2).blk t).view.emb (ix2 e k)) = _
  refine congrArg (V c main_v3) (funext fun a => Fin.ext ?_)
  match a with
  | ⟨0, _⟩ => show win0_2.index t (0 : Fin 2) * 256 + 1 * e.val = E.val; omega
  | ⟨1, _⟩ => show win0_2.index t (1 : Fin 2) * 2048 + 1 * k.val = k.val; omega

/-- The block of the value matrix a point is given. -/
theorem blkWV {W : Mat} (hW : ∀ s k, V c main_v4 (ix2 s k) = W s k) (t : Fin cfg0.N) : Qkv.HW W (t.val % 8) (iblk0 V c 3 t) := by
  intro e E he k
  obtain ⟨e0, e1⟩ := idx0_3 t
  refine Eq.trans ?_ (hW E k)
  show V c main_v4 (((cfg0.win 3).blk t).view.emb (ix2 e k)) = _
  refine congrArg (V c main_v4) (funext fun a => Fin.ext ?_)
  match a with
  | ⟨0, _⟩ => show win0_3.index t (0 : Fin 2) * 256 + 1 * e.val = E.val; omega
  | ⟨1, _⟩ => show win0_3.index t (1 : Fin 2) * 2048 + 1 * k.val = k.val; omega

/-- The table as a whole. -/
def Table : Prop := ∀ (s : Fin 2048) (k : Fin 512), V c main_v25 (ix2 s k)
  = if k.val < 256 then cosT s ⟨k.val % 128, by omega⟩ else sinT s ⟨k.val % 128, by omega⟩

variable {V c} in
/-- The block of the table a point is given. -/
theorem blkT (hT : Table V c) (t : Fin cfg0.N) : Qkv.HT (iblk0 V c 4 t) (t.val / 8) := by
  intro p s hs k
  obtain ⟨e0, e1⟩ := idx0_4 t
  refine Eq.trans ?_ (hT s k)
  show V c main_v25 (((cfg0.win 4).blk t).view.emb (ix2 p k)) = _
  refine congrArg (V c main_v25) (funext fun a => Fin.ext ?_)
  match a with
  | ⟨0, _⟩ => show win0_4.index t (0 : Fin 2) * 1024 + 1 * p.val = s.val; omega
  | ⟨1, _⟩ => show win0_4.index t (1 : Fin 2) * 512 + 1 * k.val = k.val; omega

variable {V c}
variable {X WQ WK WV : Mat}

/-- The queries' array. -/
theorem q_arr (hX : ∀ s k, V c main_v1 (ix2 s k) = X s k) (hW : ∀ s k, V c main_v2 (ix2 s k) = WQ s k) (hT : Table V c)
    (s : Fin 2048) (h : Fin 16) (d : Fin 128) :
    (dat0 V c).arrAt 5 cfg0.N (ix2 s (col h d)) = rope (proj X WQ) s h d := by
  refine (dat0 V c).arrAt_forall_of_covers 5 (fun i v => ∀ s h d, i = ix2 s (col h d) → v = rope (proj X WQ) s h d)
    (by decide +kernel) (fun t _ y s h d e => ?_) (ix2 s (col h d)) (Memref.isWhole_whole _) s h d rfl
  rw [after0_5]
  obtain ⟨e0, e1⟩ := idx0_5 t
  obtain ⟨i0, i1⟩ := ix2_col e
  have j0 : win0_5.index t (0 : Fin 2) * 1024 + 1 * (y 0).val = s.val := i0
  have j1 : win0_5.index t (1 : Fin 2) * 256 + 1 * (y 1).val = h.val * 128 + d.val := i1
  refine Eq.trans ?_ (Qkv.q_at (x1 := iblk0 V c 1 t) (x2 := iblk0 V c 2 t) (x3 := iblk0 V c 3 t) (blkX V c hX t) (blkWQ V c hW t) (blkT hT t)
    (y 0) (y 1) s h d (by omega) (by omega))
  refine (cast_eq rfl _).trans ?_
  refine congrArg (out0_5 (iblk0 V c 0 t) (iblk0 V c 1 t) (iblk0 V c 2 t) (iblk0 V c 3 t) (iblk0 V c 4 t)) (funext fun a => ?_)
  match a with
  | ⟨0, _⟩ => rfl
  | ⟨1, _⟩ => rfl

/-- The scaled keys' array. -/
theorem k_arr (hX : ∀ s k, V c main_v1 (ix2 s k) = X s k) (hW : ∀ s k, V c main_v3 (ix2 s k) = WK s k) (hT : Table V c)
    (s : Fin 2048) (h : Fin 16) (d : Fin 128) :
    (dat0 V c).arrAt 6 cfg0.N (ix2 s (col h d)) = rope (proj X WK) s h d * ((1 / Real.sqrt 128 : ℝ) : EReal) := by
  refine (dat0 V c).arrAt_forall_of_covers 6
    (fun i v => ∀ s h d, i = ix2 s (col h d) → v = rope (proj X WK) s h d * ((1 / Real.sqrt 128 : ℝ) : EReal))
    (by decide +kernel) (fun t _ y s h d e => ?_) (ix2 s (col h d)) (Memref.isWhole_whole _) s h d rfl
  rw [after0_6]
  obtain ⟨e0, e1⟩ := idx0_6 t
  obtain ⟨i0, i1⟩ := ix2_col e
  have j0 : win0_6.index t (0 : Fin 2) * 1024 + 1 * (y 0).val = s.val := i0
  have j1 : win0_6.index t (1 : Fin 2) * 256 + 1 * (y 1).val = h.val * 128 + d.val := i1
  refine Eq.trans ?_ (Qkv.k_at (x1 := iblk0 V c 1 t) (x2 := iblk0 V c 2 t) (x3 := iblk0 V c 3 t) (blkX V c hX t) (blkWK V c hW t) (blkT hT t)
    (y 0) (y 1) s h d (by omega) (by omega))
  refine (cast_eq rfl _).trans ?_
  refine congrArg (out0_6 (iblk0 V c 0 t) (iblk0 V c 1 t) (iblk0 V c 2 t) (iblk0 V c 3 t) (iblk0 V c 4 t)) (funext fun a => ?_)
  match a with
  | ⟨0, _⟩ => rfl
  | ⟨1, _⟩ => rfl

/-- The values' array. -/
theorem v_arr (hX : ∀ s k, V c main_v1 (ix2 s k) = X s k) (hW : ∀ s k, V c main_v4 (ix2 s k) = WV s k)
    (s : Fin 2048) (h : Fin 16) (d : Fin 128) : (dat0 V c).arrAt 7 cfg0.N (ix2 s (col h d)) = proj X WV s h d := by
  refine (dat0 V c).arrAt_forall_of_covers 7 (fun i v => ∀ s h d, i = ix2 s (col h d) → v = proj X WV s h d)
    (by decide +kernel) (fun t _ y s h d e => ?_) (ix2 s (col h d)) (Memref.isWhole_whole _) s h d rfl
  rw [after0_7]
  obtain ⟨e0, e1⟩ := idx0_7 t
  obtain ⟨i0, i1⟩ := ix2_col e
  have j0 : win0_7.index t (0 : Fin 2) * 1024 + 1 * (y 0).val = s.val := i0
  have j1 : win0_7.index t (1 : Fin 2) * 256 + 1 * (y 1).val = h.val * 128 + d.val := i1
  refine Eq.trans ?_ (Qkv.v_at (x1 := iblk0 V c 1 t) (x2 := iblk0 V c 2 t) (x3 := iblk0 V c 3 t) (x4 := iblk0 V c 4 t)
    (blkX V c hX t) (blkWV V c hW t) (y 0) (y 1) s h d (by omega) (by omega))
  refine (cast_eq rfl _).trans ?_
  refine congrArg (out0_7 (iblk0 V c 0 t) (iblk0 V c 1 t) (iblk0 V c 2 t) (iblk0 V c 3 t) (iblk0 V c 4 t)) (funext fun a => ?_)
  match a with
  | ⟨0, _⟩ => rfl
  | ⟨1, _⟩ => rfl

/-- The chunk means' array. -/
theorem kg_arr (hX : ∀ s k, V c main_v1 (ix2 s k) = X s k) (hW : ∀ s k, V c main_v3 (ix2 s k) = WK s k) (hT : Table V c)
    (b : Fin 8) (h : Fin 16) (d : Fin 128) :
    (dat0 V c).arrAt 8 cfg0.N (ix3 b (0 : Fin 1) (col h d)) = keyMean (rope (proj X WK)) b h d := by
  refine (dat0 V c).arrAt_forall_of_covers 8
    (fun i v => ∀ (b : Fin 8) h d, i = ix3 b (0 : Fin 1) (col h d) → v = keyMean (rope (proj X WK)) b h d)
    (by decide +kernel) (fun t _ y b h d e => ?_) (ix3 b (0 : Fin 1) (col h d)) (Memref.isWhole_whole _) b h d rfl
  rw [after0_8]
  obtain ⟨e0, e1, e2⟩ := idx0_8 t
  have j0 : win0_8.index t (0 : Fin 3) * 4 + 1 * (y 0).val = b.val := congrArg (fun i : S8x1x2048.Idx => (i 0).val) e
  have j1 : win0_8.index t (2 : Fin 3) * 256 + 1 * (y 2).val = h.val * 128 + d.val := congrArg (fun i : S8x1x2048.Idx => (i 2).val) e
  refine Eq.trans ?_ (Qkv.kg_at (x1 := iblk0 V c 1 t) (x2 := iblk0 V c 2 t) (x3 := iblk0 V c 3 t) (blkX V c hX t) (blkWK V c hW t) (blkT hT t)
    (y 0) (y 2) b h d (by omega) (by omega))
  refine (cast_eq rfl _).trans ?_
  refine congrArg (out0_8 (iblk0 V c 0 t) (iblk0 V c 1 t) (iblk0 V c 2 t) (iblk0 V c 3 t) (iblk0 V c 4 t)) (funext fun a => ?_)
  match a with
  | ⟨0, _⟩ => rfl
  | ⟨1, _⟩ => exact Subsingleton.elim (α := Fin 1) _ _
  | ⟨2, _⟩ => rfl

/-! ## The attention call -/

/-- The queries move with the chunk. -/
theorem idx1_0 : ∀ t : Fin cfg1.N, win1_0.index t (0 : Fin 2) = t.val ∧ win1_0.index t (1 : Fin 2) = 0 :=
  (by decide +kernel : ∀ t : Fin grid1.N, _)
/-- The keys stay. -/
theorem idx1_1 : ∀ t : Fin cfg1.N, win1_1.index t (0 : Fin 2) = 0 ∧ win1_1.index t (1 : Fin 2) = 0 :=
  (by decide +kernel : ∀ t : Fin grid1.N, _)
/-- The values stay. -/
theorem idx1_2 : ∀ t : Fin cfg1.N, win1_2.index t (0 : Fin 2) = 0 ∧ win1_2.index t (1 : Fin 2) = 0 :=
  (by decide +kernel : ∀ t : Fin grid1.N, _)
/-- The chunk means stay. -/
theorem idx1_3 : ∀ t : Fin cfg1.N, win1_3.index t (0 : Fin 2) = 0 ∧ win1_3.index t (1 : Fin 2) = 0 :=
  (by decide +kernel : ∀ t : Fin grid1.N, _)
/-- The last matrix stays. -/
theorem idx1_4 : ∀ t : Fin cfg1.N, win1_4.index t (0 : Fin 2) = 0 ∧ win1_4.index t (1 : Fin 2) = 0 :=
  (by decide +kernel : ∀ t : Fin grid1.N, _)
/-- The result moves with the chunk, which is the grid point itself. -/
theorem idx1_5 : ∀ t : Fin cfg1.N, win1_5.index t (0 : Fin 2) = t.val ∧ win1_5.index t (1 : Fin 2) = 0
    ∧ (grid1.coords t 0).val = t.val ∧ t.val < 8 :=
  (by decide +kernel : ∀ t : Fin grid1.N, _)

variable (V c) in
/-- The queries' block of a point. -/
theorem blk1_0 (t : Fin cfg1.N) (p : Fin 256) (k s : Fin 2048) (hs : s.val = t.val * 256 + p.val) :
    iblk1 V c 0 t (ix2 p k) = V c main_v26_0 (ix2 s k) := by
  obtain ⟨e0, e1⟩ := idx1_0 t
  show V c main_v26_0 (((cfg1.win 0).blk t).view.emb (ix2 p k)) = _
  refine congrArg (V c main_v26_0) (funext fun a => Fin.ext ?_)
  match a with
  | ⟨0, _⟩ => show win1_0.index t (0 : Fin 2) * 256 + 1 * p.val = s.val; omega
  | ⟨1, _⟩ => show win1_0.index t (1 : Fin 2) * 2048 + 1 * k.val = k.val; omega

variable (V c) in
/-- The keys, whole at every point. -/
theorem blk1_1 (t : Fin cfg1.N) (p k : Fin 2048) : iblk1 V c 1 t (ix2 p k) = V c main_v26_1 (ix2 p k) := by
  obtain ⟨e0, e1⟩ := idx1_1 t
  show V c main_v26_1 (((cfg1.win 1).blk t).view.emb (ix2 p k)) = _
  refine congrArg (V c main_v26_1) (funext fun a => Fin.ext ?_)
  match a with
  | ⟨0, _⟩ => show win1_1.index t (0 : Fin 2) * 2048 + 1 * p.val = p.val; omega
  | ⟨1, _⟩ => show win1_1.index t (1 : Fin 2) * 2048 + 1 * k.val = k.val; omega

variable (V c) in
/-- The values, whole at every point. -/
theorem blk1_2 (t : Fin cfg1.N) (p k : Fin 2048) : iblk1 V c 2 t (ix2 p k) = V c main_v26_2 (ix2 p k) := by
  obtain ⟨e0, e1⟩ := idx1_2 t
  show V c main_v26_2 (((cfg1.win 2).blk t).view.emb (ix2 p k)) = _
  refine congrArg (V c main_v26_2) (funext fun a => Fin.ext ?_)
  match a with
  | ⟨0, _⟩ => show win1_2.index t (0 : Fin 2) * 2048 + 1 * p.val = p.val; omega
  | ⟨1, _⟩ => show win1_2.index t (1 : Fin 2) * 2048 + 1 * k.val = k.val; omega

variable (V c) in
/-- The chunk means, whole at every point. -/
theorem blk1_3 (t : Fin cfg1.N) (p : Fin 8) (k : Fin 2048) : iblk1 V c 3 t (ix2 p k) = V c main_v27 (ix2 p k) := by
  obtain ⟨e0, e1⟩ := idx1_3 t
  show V c main_v27 (((cfg1.win 3).blk t).view.emb (ix2 p k)) = _
  refine congrArg (V c main_v27) (funext fun a => Fin.ext ?_)
  match a with
  | ⟨0, _⟩ => show win1_3.index t (0 : Fin 2) * 8 + 1 * p.val = p.val; omega
  | ⟨1, _⟩ => show win1_3.index t (1 : Fin 2) * 2048 + 1 * k.val = k.val; omega

variable (V c) in
/-- The last matrix, whole at every point. -/
theorem blk1_4 (t : Fin cfg1.N) (p k : Fin 2048) : iblk1 V c 4 t (ix2 p k) = V c main_v6 (ix2 p k) := by
  obtain ⟨e0, e1⟩ := idx1_4 t
  show V c main_v6 (((cfg1.win 4).blk t).view.emb (ix2 p k)) = _
  refine congrArg (V c main_v6) (funext fun a => Fin.ext ?_)
  match a with
  | ⟨0, _⟩ => show win1_4.index t (0 : Fin 2) * 2048 + 1 * p.val = p.val; omega
  | ⟨1, _⟩ => show win1_4.index t (1 : Fin 2) * 2048 + 1 * k.val = k.val; omega

/-- The array the attention call leaves. -/
theorem o_arr {Q K W : Heads} {WO : Mat} (hQ : ∀ s h d, IsReal (Q s h d)) (hK : ∀ s h d, IsReal (K s h d))
    (h0 : ∀ s h d, V c main_v26_0 (ix2 s (col h d)) = Q s h d)
    (h1 : ∀ s h d, V c main_v26_1 (ix2 s (col h d)) = K s h d * ((1 / Real.sqrt 128 : ℝ) : EReal))
    (h2 : ∀ s h d, V c main_v26_2 (ix2 s (col h d)) = W s h d)
    (h3 : ∀ b h d, V c main_v27 (ix2 b (col h d)) = keyMean K b h d)
    (h4 : ∀ k j, V c main_v6 (ix2 k j) = WO j k) (s j : Fin 2048) :
    (dat1 V c).arrAt 5 cfg1.N (ix2 s j) = out (mix Q K W) WO s j := by
  refine (dat1 V c).arrAt_forall_of_covers 5 (fun i v => ∀ s j, i = ix2 s j → v = out (mix Q K W) WO s j)
    (by decide +kernel) (fun t _ y s j e => ?_) (ix2 s j) (Memref.isWhole_whole _) s j rfl
  rw [after1_5]
  obtain ⟨e0, e1, e2, e3⟩ := idx1_5 t
  have j0 : win1_5.index t (0 : Fin 2) * 256 + 1 * (y 0).val = s.val := congrArg (fun i : S2048x2048.Idx => (i 0).val) e
  have j1 : win1_5.index t (1 : Fin 2) * 2048 + 1 * (y 1).val = j.val := congrArg (fun i : S2048x2048.Idx => (i 1).val) e
  have hr : row ⟨t.val, e3⟩ (y 0) = s := Fin.ext (by show t.val * 256 + (y 0).val = s.val; omega)
  have hj : (y 1 : Fin 2048) = j := Fin.ext (by omega)
  refine Eq.trans ?_ ((Head.out_at (grid1.coords t) ⟨t.val, e3⟩ e2 (iblk1 V c 0 t) (iblk1 V c 1 t) (iblk1 V c 2 t) (iblk1 V c 3 t)
    (iblk1 V c 4 t) Q K W WO hQ hK
    (fun r h d => (blk1_0 V c t r (col h d) (row ⟨t.val, e3⟩ r) rfl).trans (h0 _ h d))
    (fun b h d => (blk1_3 V c t b (col h d)).trans (h3 b h d))
    (fun s h d => (blk1_1 V c t s (col h d)).trans (h1 s h d))
    (fun s h d => (blk1_2 V c t s (col h d)).trans (h2 s h d))
    (fun k j => (blk1_4 V c t k j).trans (h4 k j)) (y 0) (y 1)).trans (by rw [hr, hj]))
  refine (cast_eq rfl _).trans ?_
  refine congrArg (out1_5 (grid1.coords t) (iblk1 V c 0 t) (iblk1 V c 1 t) (iblk1 V c 2 t) (iblk1 V c 3 t) (iblk1 V c 4 t)) (funext fun a => ?_)
  match a with
  | ⟨0, _⟩ => rfl
  | ⟨1, _⟩ => rfl

end Cert.Arrays

end
-- ==== Proof.KernelValue.lean ====
/- The kernel's result in coordinates, through its host operations and its two calls: the attention of Spec.lean of the
   arguments as launched. -/
module

public import proofs.«01_k».proof.Proof.Arrays

@[expose] public section

set_option maxRecDepth 16384

noncomputable section

namespace Cert.KernelValue

open Cert.KernelIdeal Cert.KernelIdeal.Gen Idealize.ShloMosaic Idealize.ShloMosaic.TcCoe Cert.Spec

variable (m : (ℓ : Loc nD τ sig) → Buf (Elt Ideal) ℓ) (ρ : Dev nD → PrngReg) (c : Dev nD)

/-- The hidden states in coordinates. -/
def hidK : Mat := fun s k => m ((c.tc : Thread nD τ).loc main_arg0) (ix3 0 s k)
/-- The query matrix in coordinates. -/
def wqK : Mat := fun s k => m ((c.tc : Thread nD τ).loc main_arg1) (ix2 s k)
/-- The key matrix in coordinates. -/
def wkK : Mat := fun s k => m ((c.tc : Thread nD τ).loc main_arg2) (ix2 s k)
/-- The value matrix in coordinates. -/
def wvK : Mat := fun s k => m ((c.tc : Thread nD τ).loc main_arg3) (ix2 s k)
/-- The last matrix in coordinates. -/
def woK : Mat := fun s k => m ((c.tc : Thread nD τ).loc main_arg4) (ix2 s k)

/-- The hidden states the projection call finds. -/
theorem x_in (s k : Fin 2048) : V1 m ρ c main_v1 (ix2 s k) = hidK m c s k := HostVal.x_at (W0 m ρ c) s k
/-- The query matrix the projection call finds. -/
theorem wq_in (s k : Fin 2048) : V1 m ρ c main_v2 (ix2 s k) = wqK m c s k := HostVal.wq_at (W0 m ρ c) s k
/-- The key matrix the projection call finds. -/
theorem wk_in (s k : Fin 2048) : V1 m ρ c main_v3 (ix2 s k) = wkK m c s k := HostVal.wk_at (W0 m ρ c) s k
/-- The value matrix the projection call finds. -/
theorem wv_in (s k : Fin 2048) : V1 m ρ c main_v4 (ix2 s k) = wvK m c s k := HostVal.wv_at (W0 m ρ c) s k
/-- The table the projection call finds. -/
theorem table_in : Arrays.Table (V1 m ρ) c := fun s k => HostVal.table_at (W0 m ρ c) s k

/-- The queries the attention call finds. -/
theorem q_in (s : Fin 2048) (h : Fin 16) (d : Fin 128) :
    V3 m ρ c main_v26_0 (ix2 s (col h d)) = rope (proj (hidK m c) (wqK m c)) s h d :=
  (congrFun ((W3_of m ρ c main_v26_0 (by decide)).trans (W2_arr m ρ c 5)) _).trans
    (Arrays.q_arr (x_in m ρ c) (wq_in m ρ c) (table_in m ρ c) s h d)

/-- The scaled keys the attention call finds. -/
theorem k_in (s : Fin 2048) (h : Fin 16) (d : Fin 128) :
    V3 m ρ c main_v26_1 (ix2 s (col h d)) = rope (proj (hidK m c) (wkK m c)) s h d * ((1 / Real.sqrt 128 : ℝ) : EReal) :=
  (congrFun ((W3_of m ρ c main_v26_1 (by decide)).trans (W2_arr m ρ c 6)) _).trans
    (Arrays.k_arr (x_in m ρ c) (wk_in m ρ c) (table_in m ρ c) s h d)

/-- The values the attention call finds. -/
theorem v_in (s : Fin 2048) (h : Fin 16) (d : Fin 128) :
    V3 m ρ c main_v26_2 (ix2 s (col h d)) = proj (hidK m c) (wvK m c) s h d :=
  (congrFun ((W3_of m ρ c main_v26_2 (by decide)).trans (W2_arr m ρ c 7)) _).trans
    (Arrays.v_arr (x_in m ρ c) (wv_in m ρ c) s h d)

/-- The chunk means the attention call finds. -/
theorem kg_in (b : Fin 8) (h : Fin 16) (d : Fin 128) :
    V3 m ρ c main_v27 (ix2 b (col h d)) = keyMean (rope (proj (hidK m c) (wkK m c))) b h d :=
  (HostVal.kg_at (W2 m ρ c) b (col h d)).trans ((congrFun (W2_arr m ρ c 8) _).trans
    (Arrays.kg_arr (x_in m ρ c) (wk_in m ρ c) (table_in m ρ c) b h d))

/-- The last matrix the attention call finds: turned over. -/
theorem wo_in (k j : Fin 2048) : V3 m ρ c main_v6 (ix2 k j) = woK m c j k :=
  (congrFun ((W3_of m ρ c main_v6 (by decide)).trans (W2_of m ρ c main_v6 (by decide))) _).trans (HostVal.wo_at (W0 m ρ c) k j)

/-- The kernel's result, when its hidden states and its query and key matrices are real: the attention of its arguments. -/
theorem result (hx : ∀ a b, IsReal (hidK m c a b)) (hq : ∀ a b, IsReal (wqK m c a b)) (hk : ∀ a b, IsReal (wkK m c a b))
    (a : Fin 1) (s j : Fin 2048) : W5 m ρ c (Proc.devRef .tc main_v29) (ix3 a s j)
      = attention (hidK m c) (wqK m c) (wkK m c) (wvK m c) (woK m c) s j :=
  (HostVal.result_at (W4 m ρ c) a s j).trans ((congrFun (W4_arr m ρ c 5) _).trans
    (Arrays.o_arr (rope_real (proj_real hx hq)) (rope_real (proj_real hx hk)) (q_in m ρ c) (k_in m ρ c) (v_in m ρ c)
      (kg_in m ρ c) (wo_in m ρ c) s j))

end Cert.KernelValue

end
-- ==== Proof.RefValue.lean ====
/- The reference program read in coordinates: its result is the attention of Spec.lean. -/
module

public import proofs.«01_k».proof.Proof.Gen.ReferenceIdeal.Read
public import proofs.«01_k».proof.Proof.Spec
public import proofs.«01_k».proof.Proof.Words
public import Idealize.ShloMosaic.Lib.Pointwise
public import Idealize.ShloMosaic.Lib.IdealHost

@[expose] public section

set_option maxRecDepth 16384

noncomputable section

namespace Cert.RefValue

open Cert.ReferenceIdeal Cert.ReferenceIdeal.Gen Cert.ReferenceIdeal.Read Idealize.ShloMosaic Cert.Spec

/-- The contents of a square matrix argument. -/
abbrev MatC := (⟨S2048x2048, .f32⟩ : BufTy).Contents (Elt Ideal)

/-- The contents of the hidden states. -/
abbrev HidC := (⟨S1x2048x2048, .f32⟩ : BufTy).Contents (Elt Ideal)

/-- A matrix argument in coordinates. -/
def mat (x : MatC) : Spec.Mat := fun a b => x (ix2 a b)

/-- The hidden states in coordinates. -/
def hid (x : HidC) : Spec.Mat := fun a b => x (ix3 0 a b)

/-- The queries before turning. -/
theorem q_lin (x0 : HidC) (x1 : MatC) (s : Fin 2048) (h : Fin 16) (d : Fin 128) :
    val_main_v3 (F := Ideal) x0 x1 (ix3 s h d) = proj (hid x0) (mat x1) s h d := by
  unfold val_main_v3 val_main_v2 val_main_v0 val_main_v1
  pointwise
  rfl

/-- The keys before turning. -/
theorem k_lin (x0 : HidC) (x2 : MatC) (s : Fin 2048) (h : Fin 16) (d : Fin 128) :
    val_main_v6 (F := Ideal) x0 x2 (ix3 s h d) = proj (hid x0) (mat x2) s h d := by
  unfold val_main_v6 val_main_v5 val_main_v0 val_main_v4
  pointwise
  rfl

/-- The values. -/
theorem v_lin (x0 : HidC) (x3 : MatC) (s : Fin 2048) (h : Fin 16) (d : Fin 128) :
    val_main_v9 (F := Ideal) x0 x3 (ix3 s h d) = proj (hid x0) (mat x3) s h d := by
  unfold val_main_v9 val_main_v8 val_main_v0 val_main_v7
  pointwise
  rfl

/-- The angles the queries turn by. -/
theorem angle_q (s : Fin 2048) (d : Fin 64) : val_main_v22 (F := Ideal) (ix2 s d) = angle s d := by
  unfold val_main_v22 val_main_v21 val_main_v20 val_main_v19 val_main_v18 val_main_v17 val_main_v16 val_main_v15 val_main_v14 val_main_v13 val_main_v12 val_main_v11 val_main_v10 val_main_cst val_main_cst_0 val_main_cst_1
  pointwise
  rfl

/-- The angles the keys turn by. -/
theorem angle_k (s : Fin 2048) (d : Fin 64) : val_main_v52 (F := Ideal) (ix2 s d) = angle s d := by
  unfold val_main_v52 val_main_v51 val_main_v50 val_main_v49 val_main_v48 val_main_v47 val_main_v46 val_main_v45 val_main_v44 val_main_v43 val_main_v42 val_main_v41 val_main_v40 val_main_cst_2 val_main_cst_3 val_main_cst_4
  pointwise
  rfl

/-- The queries turned. -/
theorem q_rope (x0 : HidC) (x1 : MatC) (s : Fin 2048) (h : Fin 16) (d : Fin 128) :
    val_main_v39 (F := Ideal) x0 x1 (ix3 s h d) = rope (proj (hid x0) (mat x1)) s h d := by
  have hl := q_lin x0 x1
  have ha := angle_q
  unfold val_main_v39 val_main_v38 val_main_v37 val_main_v36 val_main_v35 val_main_v34 val_main_v33 val_main_v32 val_main_v31 val_main_v30 val_main_v29 val_main_v28 val_main_v27 val_main_v26 val_main_v25 val_main_v24 val_main_v23
  generalize val_main_v3 (F := Ideal) x0 x1 = y at *
  generalize val_main_v22 (F := Ideal) = c at *
  pointwise
  simp only [hl, ha]
  unfold rope
  split
  · rfl
  · next hd => simp only [show (⟨64 + (d.val - 64), by omega⟩ : Fin 128) = d from Fin.ext (by show 64 + (d.val - 64) = d.val; omega)]

/-- The keys turned. -/
theorem k_rope (x0 : HidC) (x2 : MatC) (s : Fin 2048) (h : Fin 16) (d : Fin 128) :
    val_main_v69 (F := Ideal) x0 x2 (ix3 s h d) = rope (proj (hid x0) (mat x2)) s h d := by
  have hl := k_lin x0 x2
  have ha := angle_k
  unfold val_main_v69 val_main_v68 val_main_v67 val_main_v66 val_main_v65 val_main_v64 val_main_v63 val_main_v62 val_main_v61 val_main_v60 val_main_v59 val_main_v58 val_main_v57 val_main_v56 val_main_v55 val_main_v54 val_main_v53
  generalize val_main_v6 (F := Ideal) x0 x2 = y at *
  generalize val_main_v52 (F := Ideal) = c at *
  pointwise
  simp only [hl, ha]
  unfold rope
  split
  · rfl
  · next hd => simp only [show (⟨64 + (d.val - 64), by omega⟩ : Fin 128) = d from Fin.ext (by show 64 + (d.val - 64) = d.val; omega)]

variable (q k v : Heads)

/-- The word comparisons of a position with a chunk's bounds. -/
theorem before_end (s : Fin 2048) (c : Fin 8) :
    IntOp.cmpi CmpIPredicate.slt (BitVec.ofNat 32 s.val) (IntOp.muli (IntOp.addi (BitVec.ofNat 32 c.val) 1#32) 256#32)
      = if chunk s ≤ c then 1#1 else 0#1 := by
  rw [Words.add_word c.val 1, Words.mul_word (c.val + 1) 256, Words.slt_word _ _ (by omega) (by omega)]
  refine if_congr ?_ rfl rfl
  rw [Fin.le_def]
  show s.val < (c.val + 1) * 256 ↔ s.val / 256 ≤ c.val
  omega

/-- A position is at or after the start of a chunk when its own chunk is not earlier. -/
theorem after_start (s : Fin 2048) (c : Fin 8) :
    IntOp.cmpi CmpIPredicate.sge (BitVec.ofNat 32 s.val) (IntOp.muli (BitVec.ofNat 32 c.val) 256#32)
      = if c ≤ chunk s then 1#1 else 0#1 := by
  rw [Words.mul_word c.val 256, Words.sge_word _ _ (by omega) (by omega)]
  refine if_congr ?_ rfl rfl
  rw [Fin.le_def]
  show c.val * 256 ≤ s.val ↔ c.val ≤ s.val / 256
  omega

/-- The gates of the reference. -/
theorem gate_ref (x0 : HidC) (x1 x2 : MatC) (h : Fin 16) (s : Fin 2048) (c : Fin 8) :
    val_main_v97 (F := Ideal) x0 x1 x2 (ix3 h s c)
      = gate (rope (proj (hid x0) (mat x1))) (rope (proj (hid x0) (mat x2))) h s c := by
  have hg : val_main_v74 (F := Ideal) x0 x1 x2 (ix3 h s c)
      = ∑ d, rope (proj (hid x0) (mat x1)) s h d * keyMean (rope (proj (hid x0) (mat x2))) c h d := by
    have hq := q_rope x0 x1
    have hk := k_rope x0 x2
    unfold val_main_v74 val_main_v73 val_main_v72 val_main_v71 val_main_v70 val_main_cst_6 val_main_cst_5
    generalize val_main_v39 (F := Ideal) x0 x1 = y at *
    generalize val_main_v69 (F := Ideal) x0 x2 = z at *
    pointwise
    simp only [hq, hk]
    rfl
  unfold val_main_v97 val_main_v95
  generalize val_main_v74 (F := Ideal) x0 x1 x2 = y at *
  unfold val_main_call1_v1 val_main_call1_v2 val_main_call1_v0 val_main_call0_v1 val_main_call0_v2 val_main_call0_v0 val_main_v94 val_main_v96 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_c_7 val_main_c_8 val_main_c val_main_cst_9 val_main_cst_10
  pointwise
  rw [before_end, after_start, hg]
  unfold gate
  by_cases h1 : c = chunk s
  · subst h1
    simp only [le_refl, if_true]
    exact bits_top
  · by_cases h2 : chunk s < c
    · rw [if_neg h1, if_pos h2, if_neg (not_le.mpr h2), if_pos h2.le]
      exact bits_bot
    · have h3 : ¬ chunk s ≤ c := fun h3 => h2 (lt_of_le_of_ne h3 (Ne.symm h1))
      rw [if_neg h1, if_neg h2, if_neg h3, if_pos (not_le.mp h3).le]
      rfl

/-- The positions the selection keeps, in order. -/
theorem indices_ref (x0 : HidC) (x1 x2 : MatC) (h : Fin 16) (s : Fin 2048) (j : Fin 4) :
    val_main_indices (F := Ideal) x0 x1 x2 (ix3 h s j)
      = BitVec.ofNat 32 (sortedFrom (fun a b : Fin 8 => FloatOps.cmpfTotal (F := Ideal) (φ := .f32) .gt
          (val_main_v97 (F := Ideal) x0 x1 x2 (ix3 h s a)) (val_main_v97 (F := Ideal) x0 x1 x2 (ix3 h s b)) == 1#1)
          (Fin.castLE (by decide) j)).val := by
  unfold val_main_indices Host.topK Host.sort2
  generalize val_main_v97 (F := Ideal) x0 x1 x2 = y
  have hal : ∀ (i : S16x2048x8.Idx) (a : Fin 8), i 0 = h → i 1 = s → Shape.Idx.along i (2 : Fin 3) a = ix3 h s a := by
    rintro i a rfl rfl
    funext b
    fin_cases b <;> rfl
  simp only [dif_pos (show (2 : Nat) < S16x2048x8.rank from by decide)]
  pointwise
  have e : ∀ (p : j.val < 8) (a : Fin 8), Shape.Idx.along (s := S16x2048x8) (ix3 h s ⟨j.val, p⟩) (2 : Fin 3) a = ix3 h s a :=
    fun p a => hal _ a rfl rfl
  simp only [e]
  rfl

/-- The selection of the reference. -/
theorem sel_ref (x0 : HidC) (x1 x2 : MatC) (h : Fin 16) (s : Fin 2048) (c : Fin 8) :
    val_main_v101 (F := Ideal) x0 x1 x2 (ix3 h s c)
      = if Selected (rope (proj (hid x0) (mat x1))) (rope (proj (hid x0) (mat x2))) h s c then 1#1 else 0#1 := by
  have hi := indices_ref x0 x1 x2
  simp only [gate_ref] at hi
  unfold val_main_v101 val_main_v100 val_main_v99 val_main_v98 val_main_call2_v4 val_main_call2_v3 val_main_call2_v2 val_main_call2_v1 val_main_call2_v0 val_main_cst_11 val_main_cst_12
  generalize val_main_indices (F := Ideal) x0 x1 x2 = y at *
  pointwise
  simp only [hi]
  have hw : ∀ a : Fin 8, FloatOps.uitofp (F := Ideal) .f32 (IntOp.cmpi CmpIPredicate.eq (BitVec.ofNat 32 a.val) (BitVec.ofNat 32 c.val))
      = (if a = c then (1 : EReal) else 0) := by
    intro a
    rw [Words.eq_word _ _ (by omega) (by omega)]
    by_cases h1 : a = c
    · subst h1; simp only [if_true]; show (((1#1 : BitVec 1).toNat : ℝ) : EReal) = 1; norm_num
    · rw [if_neg (fun h2 => h1 (Fin.ext h2)), if_neg h1]; show (((0#1 : BitVec 1).toNat : ℝ) : EReal) = 0; norm_num
  simp only [hw]
  rw [Words.bool_word]
  refine if_congr ?_ rfl rfl
  rw [decide_eq_true_iff, Softmax.count_pos]
  refine TopK.mem_first_iff (by decide) _ _ (fun a b => ?_) c
  rw [beq_iff_eq]
  show BitVec.ofBool (decide _) = 1#1 ↔ _
  rw [Words.bool_word]
  simp

/-- The mask of the reference. -/
theorem mask_ref (x0 : HidC) (x1 x2 : MatC) (h : Fin 16) (s t : Fin 2048) :
    val_main_v111 (F := Ideal) x0 x1 x2 (ix3 h s t)
      = if Sees (rope (proj (hid x0) (mat x1))) (rope (proj (hid x0) (mat x2))) h s t then 1#1 else 0#1 := by
  have hs := sel_ref x0 x1 x2
  unfold val_main_v111 val_main_v110 val_main_v109 val_main_v108 val_main_v107 val_main_v106 val_main_v105 val_main_v104 val_main_v103 val_main_v102 val_main_v75
  generalize val_main_v101 (F := Ideal) x0 x1 x2 = y at *
  pointwise
  simp only [hs]
  rw [Words.sge_word _ _ (by omega) (by omega)]
  unfold Sees
  show IntOp.andi (if Selected _ _ h s (chunk t) then 1#1 else 0#1) _ = _
  by_cases h1 : Selected (rope (proj (hid x0) (mat x1))) (rope (proj (hid x0) (mat x2))) h s (chunk t) <;>
    by_cases h2 : t.val ≤ s.val <;> simp only [h1, h2, Fin.le_def, true_and, false_and, and_true, and_false, if_true, if_false] <;> rfl

/-- The masked scores of the reference. -/
theorem scores_ref (x0 : HidC) (x1 x2 : MatC) (h : Fin 16) (s t : Fin 2048) :
    val_main_v116 (F := Ideal) x0 x1 x2 (ix3 h s t)
      = if Sees (rope (proj (hid x0) (mat x1))) (rope (proj (hid x0) (mat x2))) h s t then
          Ideal.div (dotQK (rope (proj (hid x0) (mat x1))) (rope (proj (hid x0) (mat x2))) h s t) (Ideal.sqrt (Ideal.ofBits .f32 0x43000000#32))
        else ⊥ := by
  have hm := mask_ref x0 x1 x2
  have hq := q_rope x0 x1
  have hk := k_rope x0 x2
  unfold val_main_v116 val_main_v115 val_main_v114 val_main_v113 val_main_v112 val_main_cst_13
  generalize val_main_v111 (F := Ideal) x0 x1 x2 = y at *
  generalize val_main_v39 (F := Ideal) x0 x1 = q at *
  generalize val_main_v69 (F := Ideal) x0 x2 = k at *
  unfold val_main_call3_v1 val_main_call3_v0 val_main_cst_14
  pointwise
  simp only [hm, hq, hk]
  split
  · rfl
  · exact bits_bot

/-- The greatest over the last axis, as a fold over its coordinates. -/
theorem fold_ref (y : S16x2048x2048.Idx → EReal) (i : S_.Idx → EReal) (h : Fin 16) (s : Fin 2048) :
    Host.reduce (FloatOps.maximumf (F := Ideal) (φ := .f32)) y i reducesTo_S16x2048x2048_S16x2048_d2 h_S_ (ix2 h s)
      = Finset.univ.fold max (i (Shape.Idx.first h_S_)) fun t : Fin 2048 => y (ix3 h s t) := by
  refine (Host.reduce_eq_fold_single (α := EReal) max y i reducesTo_S16x2048x2048_S16x2048_d2 (by decide) h_S_ (ix2 h s)).trans ?_
  refine congrArg (fun f => Finset.univ.fold max (i (Shape.Idx.first h_S_)) f) (funext fun t => ?_)
  refine congrArg y (funext fun a => Fin.ext ?_)
  match a with | ⟨0, _⟩ => rfl | ⟨1, _⟩ => rfl | ⟨2, _⟩ => rfl

/-- The row maximum of the reference. -/
theorem max_ref (x0 : HidC) (x1 x2 : MatC) (h : Fin 16) (s : Fin 2048) :
    val_main_v119 (F := Ideal) x0 x1 x2 (ix2 h s)
      = max ⊥ (Finset.univ.fold max ⊥ fun t : Fin 2048 => val_main_v116 (F := Ideal) x0 x1 x2 (ix3 h s t)) := by
  rw [val_main_v119_apply, val_main_v118_apply, val_main_cst_16_apply]
  unfold val_main_v117
  generalize val_main_v116 (F := Ideal) x0 x1 x2 = y at *
  refine (congrArg (max (Ideal.ofBits .f32 0xFF800000#32)) (fold_ref y _ h s)).trans ?_
  rw [val_main_cst_15_apply, bits_bot]
  rw [show FloatOps.ofBits (F := Ideal) .f32 0xFF800000#32 = ⊥ from bits_bot]

/-- The exponentials of the reference. -/
theorem exp_ref (x0 : HidC) (x1 x2 : MatC) (h : Fin 16) (s t : Fin 2048) :
    val_main_v123 (F := Ideal) x0 x1 x2 (ix3 h s t)
      = Ideal.exp (val_main_v116 (F := Ideal) x0 x1 x2 (ix3 h s t) - val_main_v119 (F := Ideal) x0 x1 x2 (ix2 h s)) := by
  rw [val_main_v123_apply, val_main_v122_apply, val_main_v121_apply, val_main_v120_apply]
  generalize val_main_v116 (F := Ideal) x0 x1 x2 = y at *
  generalize val_main_v119 (F := Ideal) x0 x1 x2 = m at *
  have e : idx_main_v120 (idx_main_v121 (ix3 h s t)) = ix2 h s := by
    funext a
    match a with | ⟨0, _⟩ => rfl | ⟨1, _⟩ => rfl
  rw [e]
  rfl

/-- The weights of the reference. -/
theorem weight_ref (x0 : HidC) (x1 x2 : MatC) (h : Fin 16) (s t : Fin 2048) :
    val_main_v127 (F := Ideal) x0 x1 x2 (ix3 h s t)
      = Ideal.div (val_main_v123 (F := Ideal) x0 x1 x2 (ix3 h s t)) (∑ u, val_main_v123 (F := Ideal) x0 x1 x2 (ix3 h s u)) := by
  rw [val_main_v127_apply, val_main_v126_apply, val_main_v125_apply, val_main_v124_apply]
  generalize val_main_v123 (F := Ideal) x0 x1 x2 = y at *
  have e : ∀ u, idx_main_v124 (idx_main_v125 (idx_main_v126 (ix3 h s t))) u = ix3 h s u := by
    intro u
    funext a
    match a with | ⟨0, _⟩ => rfl | ⟨1, _⟩ => rfl | ⟨2, _⟩ => rfl
  have e0 : val_main_cst_17 (F := Ideal) (Shape.Idx.first h_S_) = (0 : EReal) := Ideal.ofBits_zero_f32
  simp only [e, e0]
  rw [zero_add]
  rfl

/-- The attention of the reference, before the last projection. -/
theorem mix_ref (x0 : HidC) (x1 x2 x3 : MatC) (hx : ∀ a b, IsReal (hid x0 a b)) (hq : ∀ a b, IsReal (mat x1 a b))
    (hk : ∀ a b, IsReal (mat x2 a b)) (h : Fin 16) (s : Fin 2048) (d : Fin 128) :
    val_main_v128 (F := Ideal) x0 x1 x2 x3 (ix3 h d s)
      = mix (rope (proj (hid x0) (mat x1))) (rope (proj (hid x0) (mat x2))) (proj (hid x0) (mat x3)) s h d := by
  have hv := v_lin x0 x3
  have hr := max_ref x0 x1 x2 h s
  have he := exp_ref x0 x1 x2 h s
  have hw := weight_ref x0 x1 x2 h s
  have hc := scores_ref x0 x1 x2 h s
  unfold val_main_v128
  generalize val_main_v127 (F := Ideal) x0 x1 x2 = w at *
  generalize val_main_v9 (F := Ideal) x0 x3 = v at *
  pointwise
  simp only [hv, hw, he]
  have hQ := rope_real (proj_real hx hq)
  have hK := rope_real (proj_real hx hk)
  generalize rope (proj (hid x0) (mat x1)) = q at *
  generalize rope (proj (hid x0) (mat x2)) = k at *
  have hc' : ∀ t, val_main_v116 (F := Ideal) x0 x1 x2 (ix3 h s t) = if Sees q k h s t then (score q k h s t : EReal) else ⊥ := by
    intro t
    rw [hc t]
    refine if_congr Iff.rfl ?_ rfl
    obtain ⟨a, ha⟩ := dotQK_real hQ hK h s t
    unfold score
    rw [ha, bits_128, Ideal.sqrt_coe, if_neg (by norm_num), EReal.toReal_coe, div_real (by positivity)]
  obtain ⟨m, hm⟩ := Softmax.fold_max_real (fun t => val_main_v116 (F := Ideal) x0 x1 x2 (ix3 h s t))
    (fun t => by
      show val_main_v116 (F := Ideal) x0 x1 x2 (ix3 h s t) ≠ ⊤
      rw [hc' t]; split
      · exact EReal.coe_ne_top _
      · exact bot_ne_top)
    ⟨s, by
      show val_main_v116 (F := Ideal) x0 x1 x2 (ix3 h s s) ≠ ⊥
      rw [hc' s, if_pos (sees_self q k (gate_real hQ hK) h s)]; exact EReal.coe_ne_bot _⟩
  rw [hr, hm, max_eq_right bot_le]
  exact Softmax.attend_shifted (Sees q k h s) (score q k h s) (fun t => proj (hid x0) (mat x3) t h d) _ m
    ⟨s, sees_self q k (gate_real hQ hK) h s⟩ hc'

/-- The result of the reference. -/
theorem out_ref (x0 : HidC) (x1 x2 x3 x4 : MatC) (hx : ∀ a b, IsReal (hid x0 a b)) (hq : ∀ a b, IsReal (mat x1 a b))
    (hk : ∀ a b, IsReal (mat x2 a b)) (a : Fin 1) (s j : Fin 2048) :
    val_main_v133 (F := Ideal) x0 x1 x2 x3 x4 (ix3 a s j)
      = attention (hid x0) (mat x1) (mat x2) (mat x3) (mat x4) s j := by
  have hm := mix_ref x0 x1 x2 x3 hx hq hk
  unfold val_main_v133 val_main_v132 val_main_v131 val_main_v130 val_main_v129
  generalize val_main_v128 (F := Ideal) x0 x1 x2 x3 = v at *
  pointwise
  simp only [hm]
  rw [Fin.sum_univ_tiles 16 128 rfl]
  unfold attention out
  refine Finset.sum_congr rfl fun h _ => Finset.sum_congr rfl fun d _ => ?_
  have e1 : ∀ p, (⟨(h.val * 128 + d.val) / 128, p⟩ : Fin 16) = h := fun p => Fin.ext (by show (h.val * 128 + d.val) / 128 = h.val; omega)
  have e2 : ∀ p, (⟨(h.val * 128 + d.val) % 128, p⟩ : Fin 128) = d := fun p => Fin.ext (by show (h.val * 128 + d.val) % 128 = d.val; omega)
  simp only [e1, e2]
  rfl

end Cert.RefValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The reference runs, leaves its arguments unchanged and has no semaphore that is not at zero. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

/-- The two named constants stand for the words the kernel holds: the large negative one and the large positive one. -/
theorem preserves : Cert.preserves_Kernel_KernelIdeal :=
  ⟨IdealRules.named_const.statement Cert.KernelIdeal.κ "neg" .f32 0xF149F2CA#32 ⊥ rfl,
   IdealRules.named_const.statement Cert.KernelIdeal.κ "pos" .f32 0x7149F2CA#32 ⊤ rfl⟩

/-- The side conditions of the precondition's operations. -/
theorem pre_facts : Cert.Pre_finite_scores.Facts := ⟨by decide, by decide⟩

/-- A value whose absolute value is below infinity is a real. -/
theorem real_of_abs_lt (x : EReal) (h : Scalar.cmpf (F := Ideal) (φ := .f32) .olt (FloatOps.absf (F := Ideal) (φ := .f32) x)
    (Ideal.ofBits .f32 0x7F800000#32) = 1#1) : Spec.IsReal x := by
  rw [Spec.bits_top] at h
  have lt : max x (-x) < ⊤ := by
    by_contra hn
    have h' : BitVec.ofBool (decide (max x (-x) < (⊤ : EReal))) = 1#1 := h
    rw [decide_eq_false hn] at h'
    exact absurd h' (by decide)
  clear h
  induction x using EReal.rec with
  | bot => exact absurd lt (by simp)
  | top => exact absurd lt (by simp)
  | coe a => exact ⟨a, rfl⟩

/-- The precondition says that the hidden states and the query and key matrices are real. -/
theorem reals (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) :
    (∀ a b, Spec.IsReal (KernelValue.hidK m c a b)) ∧ (∀ a b, Spec.IsReal (KernelValue.wqK m c a b))
      ∧ (∀ a b, Spec.IsReal (KernelValue.wkK m c a b)) :=
  ⟨fun a b => real_of_abs_lt _ (congrFun (h c).1 (ix3 0 a b)), fun a b => real_of_abs_lt _ (congrFun (h c).2.1 (ix2 a b)),
   fun a b => real_of_abs_lt _ (congrFun (h c).2.2 (ix2 a b))⟩

/-- Under the precondition the kernel and the reference end with equal results. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hagree
  refine ⟨fun c => Cert.KernelIdeal.Gen.W5 m g c (Proc.devRef .tc Cert.KernelIdeal.main_v29), KernelRun.run m g, ?_⟩
  refine (θ_run _ _ _).mono (fun r h c => ⟨(h c).1.trans ?_, (h c).2⟩) (Cert.ReferenceIdeal.Value.run (F := Ideal) m' g')
  obtain ⟨hx, hq, hk⟩ := reals m hpre c
  obtain ⟨e0, e1, e2, e3, e4⟩ := hagree c
  rw [Cert.ReferenceIdeal.Read.val_main_v133_eq, e0, e1, e2, e3, e4]
  funext i
  obtain ⟨a, s, j, rfl⟩ : ∃ (a : Fin 1) (s j : Fin 2048), i = ix3 a s j := ⟨i 0, i 1, i 2, funext fun b => by
    match b with
    | ⟨0, _⟩ => rfl
    | ⟨1, _⟩ => rfl
    | ⟨2, _⟩ => rfl⟩
  exact (RefValue.out_ref _ _ _ _ _ hx hq hk a s j).trans (KernelValue.result m g c hx hq hk a s j).symm

/-- Every claim of this certificate. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  fun m g _ => quiescent_reference m g, fun m g _ => quiescent_reference m g, preserves, algebraic⟩

end Cert.Proof

end
